-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg2) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x1536 : Shape := ⟨3, ![16, 1024, 1536]⟩
abbrev S1536 : Shape := ⟨1, ![1536]⟩
abbrev S1 : Shape := ⟨1, ![1]⟩
abbrev S1536x8960 : Shape := ⟨2, ![1536, 8960]⟩
abbrev S12x8960 : Shape := ⟨2, ![12, 8960]⟩
abbrev S8960 : Shape := ⟨1, ![8960]⟩
abbrev S16384x1536 : Shape := ⟨2, ![16384, 1536]⟩
abbrev S1x1536 : Shape := ⟨2, ![1, 1536]⟩
abbrev S1024x1536 : Shape := ⟨2, ![1024, 1536]⟩
abbrev S16x1536 : Shape := ⟨2, ![16, 1536]⟩
abbrev S1x8960 : Shape := ⟨2, ![1, 8960]⟩
abbrev S16384x8960 : Shape := ⟨2, ![16384, 8960]⟩
abbrev S256x1536 : Shape := ⟨2, ![256, 1536]⟩
abbrev S256x8960 : Shape := ⟨2, ![256, 8960]⟩
abbrev S1x1280 : Shape := ⟨2, ![1, 1280]⟩
abbrev S128x1280 : Shape := ⟨2, ![128, 1280]⟩
abbrev S1536x1280 : Shape := ⟨2, ![1536, 1280]⟩
abbrev S16x1280 : Shape := ⟨2, ![16, 1280]⟩
abbrev S256x1280 : Shape := ⟨2, ![256, 1280]⟩
abbrev S16x1024x8960 : Shape := ⟨3, ![16, 1024, 8960]⟩

abbrev nBuf : Space → Nat
  | .hbm => 17
  | .vmem => 18
  | .smem => 1
  | _ => 0

abbrev bufTy : (tb : Table) → Fin (tcTables nBuf tb) → BufTy
  | .hbm, ⟨0, _⟩ => ⟨S16x1024x1536, .bf16⟩
  | .hbm, ⟨1, _⟩ => ⟨S1536, .f32⟩
  | .hbm, ⟨2, _⟩ => ⟨S1, .f32⟩
  | .hbm, ⟨3, _⟩ => ⟨S1536x8960, .i8⟩
  | .hbm, ⟨4, _⟩ => ⟨S12x8960, .f32⟩
  | .hbm, ⟨5, _⟩ => ⟨S8960, .f32⟩
  | .hbm, ⟨6, _⟩ => ⟨S16384x1536, .bf16⟩
  | .hbm, ⟨7, _⟩ => ⟨S1x1536, .f32⟩
  | .hbm, ⟨8, _⟩ => ⟨S1x1536, .f32⟩
  | .hbm, ⟨9, _⟩ => ⟨S1x8960, .f32⟩
  | .hbm, ⟨10, _⟩ => ⟨S16384x8960, .bf16⟩
  | .hbm, ⟨11, _⟩ => ⟨S1x8960, .f32⟩
  | .hbm, ⟨12, _⟩ => ⟨S16384x1536, .i8⟩
  | .hbm, ⟨13, _⟩ => ⟨S16x1024x8960, .bf16⟩
  | .hbm, ⟨14, _⟩ => ⟨S8960, .f32⟩
  | .hbm, ⟨15, _⟩ => ⟨S1536, .f32⟩
  | .hbm, ⟨16, _⟩ => ⟨S16x1024x1536, .i8⟩
  | .local _ .vmem, ⟨0, _⟩ => ⟨S1024x1536, .bf16⟩
  | .local _ .vmem, ⟨1, _⟩ => ⟨S1024x1536, .bf16⟩
  | .local _ .vmem, ⟨2, _⟩ => ⟨S1x1536, .f32⟩
  | .local _ .vmem, ⟨3, _⟩ => ⟨S16x1536, .bf16⟩
  | .local _ .vmem, ⟨4, _⟩ => ⟨S16x1536, .bf16⟩
  | .local _ .vmem, ⟨5, _⟩ => ⟨S256x1536, .bf16⟩
  | .local _ .vmem, ⟨6, _⟩ => ⟨S256x1536, .bf16⟩
  | .local _ .vmem, ⟨7, _⟩ => ⟨S1x1536, .f32⟩
  | .local _ .vmem, ⟨8, _⟩ => ⟨S1x1536, .f32⟩
  | .local _ .vmem, ⟨9, _⟩ => ⟨S1536x8960, .i8⟩
  | .local _ .vmem, ⟨10, _⟩ => ⟨S12x8960, .f32⟩
  | .local _ .vmem, ⟨11, _⟩ => ⟨S1x8960, .f32⟩
  | .local _ .vmem, ⟨12, _⟩ => ⟨S256x8960, .bf16⟩
  | .local _ .vmem, ⟨13, _⟩ => ⟨S256x8960, .bf16⟩
  | .local _ .vmem, ⟨14, _⟩ => ⟨S1x8960, .f32⟩
  | .local _ .vmem, ⟨15, _⟩ => ⟨S256x1536, .i8⟩
  | .local _ .vmem, ⟨16, _⟩ => ⟨S256x1536, .i8⟩
  | .local _ .vmem, ⟨17, _⟩ => ⟨S1536x8960, .bf16⟩
  | .local _ .smem, ⟨0, _⟩ => ⟨S1, .f32⟩
  | _, _ => ⟨S16x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg9_1 : Ref sig .tc := ⟨.vmem, 16, rfl⟩
abbrev cc1_scratch0 : Ref sig .tc := ⟨.vmem, 17, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem7_1 : DmaSem sig := 12
abbrev cc1_sem8_0 : DmaSem sig := 13
abbrev cc1_sem9_0 : DmaSem sig := 14
abbrev cc1_sem9_1 : DmaSem sig := 15

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v260 : BitVec 1 := Scalar.cmpi .eq arg0 c15_i32
  let v261 : BitVec 32 := Scalar.extui v260
  let c0_i32_67 : BitVec 32 := 0#32
  let v262 : BitVec 1 := Scalar.cmpi .ne v261 c0_i32_67
  v262

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1536 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1536x8960 .i8 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S12x8960 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x8960 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x8960 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x8960 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1536 .i8 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S16x1024x1536 : Shape := ⟨3, ![16, 1024, 1536]⟩
abbrev S1536 : Shape := ⟨1, ![1536]⟩
abbrev S1 : Shape := ⟨1, ![1]⟩
abbrev S1536x8960 : Shape := ⟨2, ![1536, 8960]⟩
abbrev S12x8960 : Shape := ⟨2, ![12, 8960]⟩
abbrev S8960 : Shape := ⟨1, ![8960]⟩
abbrev S16x1024x8960 : Shape := ⟨3, ![16, 1024, 8960]⟩
abbrev S1x1x1536 : Shape := ⟨3, ![1, 1, 1536]⟩
abbrev S12x128x8960 : Shape := ⟨3, ![12, 128, 8960]⟩
abbrev S12x1x8960 : Shape := ⟨3, ![12, 1, 8960]⟩
abbrev S1x1x8960 : Shape := ⟨3, ![1, 1, 8960]⟩

abbrev nBuf : Space → Nat
  | .hbm => 10
  | .vmem => 10
  | .smem => 0
  | _ => 0

abbrev bufTy : (tb : Table) → Fin (tcTables nBuf tb) → BufTy
  | .hbm, ⟨0, _⟩ => ⟨S16x1024x1536, .bf16⟩
  | .hbm, ⟨1, _⟩ => ⟨S1536, .f32⟩
  | .hbm, ⟨2, _⟩ => ⟨S1, .f32⟩
  | .hbm, ⟨3, _⟩ => ⟨S1536x8960, .i8⟩
  | .hbm, ⟨4, _⟩ => ⟨S12x8960, .f32⟩
  | .hbm, ⟨5, _⟩ => ⟨S8960, .f32⟩
  | .hbm, ⟨6, _⟩ => ⟨S16x1024x8960, .bf16⟩
  | .hbm, ⟨7, _⟩ => ⟨S8960, .f32⟩
  | .hbm, ⟨8, _⟩ => ⟨S1536, .f32⟩
  | .hbm, ⟨9, _⟩ => ⟨S16x1024x1536, .i8⟩
  | .local _ .vmem, ⟨0, _⟩ => ⟨S16x1024x1536, .bf16⟩
  | .local _ .vmem, ⟨1, _⟩ => ⟨S1536, .f32⟩
  | .local _ .vmem, ⟨2, _⟩ => ⟨S1, .f32⟩
  | .local _ .vmem, ⟨3, _⟩ => ⟨S1536x8960, .i8⟩
  | .local _ .vmem, ⟨4, _⟩ => ⟨S12x8960, .f32⟩
  | .local _ .vmem, ⟨5, _⟩ => ⟨S8960, .f32⟩
  | .local _ .vmem, ⟨6, _⟩ => ⟨S16x1024x8960, .bf16⟩
  | .local _ .vmem, ⟨7, _⟩ => ⟨S8960, .f32⟩
  | .local _ .vmem, ⟨8, _⟩ => ⟨S1536, .f32⟩
  | .local _ .vmem, ⟨9, _⟩ => ⟨S16x1024x1536, .i8⟩
  | _, _ => ⟨S16x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S16x1024x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x8960 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x8960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024x8960 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1024x1536 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.StatsRuns.lean ====
/- The first call (the middle of each channel's range): what its three cases of the grid are stated over — its
   windows' blocks, its branch conditions in closed form, where its output is left alone, its buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Stats

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_2, k0_cond3, e0]
    word_cmp
   : ∀ t : Fin grid0.N, cond0_2 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1536 .f32 := (Memref.whole cc0_stg1_0 : Memref sig .tc .vmem S1x1536 .f32).view
/-- Each window's current staging memref at point `t`, spelled as the pipeline passes it (`bodyAt0`), and its wholeness. -/
abbrev ms0_0 (t : Fin cfg0.N) : Memref sig .tc .vmem S1024x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x1536 .bf16 := Memref.whole cc0_scratch0
abbrev scM0_1 : Memref sig .tc .vmem S16x1536 .bf16 := Memref.whole cc0_scratch1
/-- The scratch `arg3` the kernel carries between points, as a view: what it holds is stated through it. -/
abbrev VS0_0 : View sig .tc .vmem S16x1536 .bf16 := scM0_0.view
/-- The scratch `arg4` the kernel carries between points, as a view: what it holds is stated through it. -/
abbrev VS0_1 : View sig .tc .vmem S16x1536 .bf16 := scM0_1.view

/-- What rides along untouched: the second call's buffers at some contents, and the generator's register. -/
def keep (c : Dev nD) : sProp 𝕄 :=
  iprop(((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_stg0_0), ((c : Thread nD τ).loc cc1_stg0_0) ↦{fullShare} f)) ∗ (∃ r, prngReg c r))

/-- The buffers no window stages, with the two running arrays as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ keep c) := by
  unfold Pipeline.ΦA keep; rw [scopedRest0_eq]; simp only [scM0_0, scM0_1, owns_whole]
  have assoc : ∀ P Q R : sProp 𝕄, iprop((P ∗ Q) ∗ R) = iprop(P ∗ Q ∗ R) := fun _ _ _ => Idealize.SL.BI.Entails.antisymm Idealize.SL.BI.sep_assoc Idealize.SL.BI.sep_assoc'
  simp only [assoc]; rfl

end Cert.Kernel.Stats

end
-- ==== Proof.Kernel.StatsRun.lean ====
/- The first call's body run on any buffers, in each of its three cases: the first point sets the two running arrays,
   the points between combine the block into them, the last one also writes the middle of the range. -/
module

public import proofs.«01_k».proof.Proof.Kernel.StatsRuns

@[expose] public section

set_option maxRecDepth 16384

noncomputable section

namespace Cert.Kernel.Stats

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) :
    Σ' (L1 : List (View.Piece (Elt F) S1x1536 .f32)), Σ' (LS0 : List (View.Piece (Elt F) S16x1536 .bf16)), { LS1 : List (View.Piece (Elt F) S16x1536 .bf16) //
      ∀ (xi1 : Vec F S1x1536 .f32) (E : Set ℕ) (K : PUnit → sProp 𝕄),
        iprop(owns (c : Thread nD τ) arg1 fullShare x0 ∗ owns (c : Thread nD τ) arg2 fullShare xi1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0_channel_midrange i arg1 harg1 arg2 harg2 arg3 harg3 arg4 harg4) K } := by
  refine ⟨[], ?_, ?_, fun xi1 E K => ?run⟩
  case run =>
    simp only [cc0_channel_midrange_eq_skeleton]; unfold cc0_channel_midrange_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 14: 14 of 16), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) :
    Σ' (L1 : List (View.Piece (Elt F) S1x1536 .f32)), Σ' (LS0 : List (View.Piece (Elt F) S16x1536 .bf16)), { LS1 : List (View.Piece (Elt F) S16x1536 .bf16) //
      ∀ (xi1 : Vec F S1x1536 .f32) (E : Set ℕ) (K : PUnit → sProp 𝕄),
        iprop(owns (c : Thread nD τ) arg1 fullShare x0 ∗ owns (c : Thread nD τ) arg2 fullShare xi1 ∗ owns (c : Thread nD τ) arg3 fullShare xs0 ∗ owns (c : Thread nD τ) arg4 fullShare xs1
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0_channel_midrange i arg1 harg1 arg2 harg2 arg3 harg3 arg4 harg4) K } := by
  refine ⟨[], ?_, ?_, fun xi1 E K => ?run⟩
  case run =>
    simp only [cc0_channel_midrange_eq_skeleton]; unfold cc0_channel_midrange_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1; obtain rfl := harg3.eq_unread hfs0; obtain rfl := harg4.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) :
    Σ' (L1 : List (View.Piece (Elt F) S1x1536 .f32)), Σ' (LS0 : List (View.Piece (Elt F) S16x1536 .bf16)), { LS1 : List (View.Piece (Elt F) S16x1536 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0 ∗ owns (c : Thread nD τ) arg4 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0_channel_midrange i arg1 harg1 arg2 harg2 arg3 harg3 arg4 harg4) K } := by
  refine ⟨?_, ?_, ?_, fun E K => ?run⟩
  case run =>
    simp only [cc0_channel_midrange_eq_skeleton]; unfold cc0_channel_midrange_skel
    simp only [k0_part1_eq_skeleton, k0_part2_eq_skeleton, k0_part3_eq_skeleton, k0_part4_eq_skeleton, k0_part5_eq_skeleton]
    unfold owns
    iintro ⟨⟨%f0, %hf0, H0⟩, ⟨%d1, %f1, -, H1⟩, ⟨%fs0, %hfs0, HS0⟩, ⟨%fs1, %hfs1, HS1⟩, Hk⟩
    obtain rfl := harg1.eq_unread hf0; obtain rfl := harg3.eq_unread hfs0; obtain rfl := harg4.eq_unread hfs1
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [HS0]; · iexists _; iexact HS0
    iexists _; iexact HS1

end Cert.Kernel.Stats

end
-- ==== Proof.Kernel.Stats.lean ====
/- The first call as a region: what its buffers hold point by point, the proof data, and its body's obligation. -/
module

public import proofs.«01_k».proof.Proof.Kernel.StatsRun

@[expose] public section

set_option maxRecDepth 16384

noncomputable section

namespace Cert.Kernel.Stats

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) : Vec F S1x1536 .f32 :=
  VO0_1.read (Elt F) (VO0_1.writes (Elt F) VO0_1.junk (kernelRun0_A c i arg1 harg1 arg2 harg2 arg3 harg3 arg4 harg4 hc0 hc1 hc2 x0).1)

/-- Case A's pieces for scratch `arg3`, which the kernel carries between points, cover it: 1 piece of `S16x1536` tiling it (Lib/Ring.lean `Piece.tiledL`). -/
theorem scover0_A_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) (y : S16x1536.Idx) :
    ∃ pc ∈ (kernelRun0_A c i arg1 harg1 arg2 harg2 arg3 harg3 arg4 harg4 hc0 hc1 hc2 x0).2.1, y ∈ pc.1.set :=
  View.cover_of_tiledL (kernelRun0_A c i arg1 harg1 arg2 harg2 arg3 harg3 arg4 harg4 hc0 hc1 hc2 x0).2.1 S16x1536.size (by sl_kernel_rfl) y

/-- What case A leaves in scratch `arg3`: its pieces read back over junk. -/
def sout0_A_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) : Vec F S16x1536 .bf16 :=
  VS0_0.read (Elt F) (VS0_0.writes (Elt F) VS0_0.junk (kernelRun0_A c i arg1 harg1 arg2 harg2 arg3 harg3 arg4 harg4 hc0 hc1 hc2 x0).2.1)

/-- Case A's pieces for scratch `arg4`, which the kernel carries between points, cover it: 1 piece of `S16x1536` tiling it (Lib/Ring.lean `Piece.tiledL`). -/
theorem scover0_A_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) (y : S16x1536.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S16x1536.size (by sl_kernel_rfl) y

/-- What case A leaves in scratch `arg4`: its pieces read back over junk. -/
def sout0_A_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) : Vec F S16x1536 .bf16 :=
  VS0_1.read (Elt F) (VS0_1.writes (Elt F) VS0_1.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) : Vec F S1x1536 .f32 :=
  VO0_1.read (Elt F) (VO0_1.writes (Elt F) VO0_1.junk (kernelRun0_B c i arg1 harg1 arg2 harg2 arg3 harg3 arg4 harg4 hc0 hc1 hc2 x0 xs0 xs1).1)

/-- Case B's pieces for scratch `arg3`, which the kernel carries between points, cover it: 1 piece of `S16x1536` tiling it (Lib/Ring.lean `Piece.tiledL`). -/
theorem scover0_B_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) (y : S16x1536.Idx) :
    ∃ pc ∈ (kernelRun0_B c i arg1 harg1 arg2 harg2 arg3 harg3 arg4 harg4 hc0 hc1 hc2 x0 xs0 xs1).2.1, y ∈ pc.1.set :=
  View.cover_of_tiledL (kernelRun0_B c i arg1 harg1 arg2 harg2 arg3 harg3 arg4 harg4 hc0 hc1 hc2 x0 xs0 xs1).2.1 S16x1536.size (by sl_kernel_rfl) y

/-- What case B leaves in scratch `arg3`: its pieces read back over junk. -/
def sout0_B_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) : Vec F S16x1536 .bf16 :=
  VS0_0.read (Elt F) (VS0_0.writes (Elt F) VS0_0.junk (kernelRun0_B c i arg1 harg1 arg2 harg2 arg3 harg3 arg4 harg4 hc0 hc1 hc2 x0 xs0 xs1).2.1)

/-- Case B's pieces for scratch `arg4`, which the kernel carries between points, cover it: 1 piece of `S16x1536` tiling it (Lib/Ring.lean `Piece.tiledL`). -/
theorem scover0_B_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) (y : S16x1536.Idx) :
    ∃ pc ∈ (kernelRun0_B c i arg1 harg1 arg2 harg2 arg3 harg3 arg4 harg4 hc0 hc1 hc2 x0 xs0 xs1).2.2.1, y ∈ pc.1.set :=
  View.cover_of_tiledL (kernelRun0_B c i arg1 harg1 arg2 harg2 arg3 harg3 arg4 harg4 hc0 hc1 hc2 x0 xs0 xs1).2.2.1 S16x1536.size (by sl_kernel_rfl) y

/-- What case B leaves in scratch `arg4`: its pieces read back over junk. -/
def sout0_B_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) : Vec F S16x1536 .bf16 :=
  VS0_1.read (Elt F) (VS0_1.writes (Elt F) VS0_1.junk (kernelRun0_B c i arg1 harg1 arg2 harg2 arg3 harg3 arg4 harg4 hc0 hc1 hc2 x0 xs0 xs1).2.2.1)

/-- Case C's pieces for output 1 tile its block (1 store of `S1x1536`, checked by the kernel's evaluation: Lib/Ring.lean `Piece.tiledL`, linear in the pieces, through a loop's `@[irreducible]` trip theorem too), so they cover it. -/
theorem cover0_C_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) (y : S1x1536.Idx) :
    ∃ pc ∈ (kernelRun0_C c i arg1 harg1 arg2 harg2 arg3 harg3 arg4 harg4 hc0 hc1 hc2 x0 xs0 xs1).1, y ∈ pc.1.set :=
  View.cover_of_tiledL (kernelRun0_C c i arg1 harg1 arg2 harg2 arg3 harg3 arg4 harg4 hc0 hc1 hc2 x0 xs0 xs1).1 S1x1536.size (by sl_kernel_rfl) y

/-- What case C leaves in output 1's staging buffer: its pieces read back over junk. -/
def out0_C_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) : Vec F S1x1536 .f32 :=
  VO0_1.read (Elt F) (VO0_1.writes (Elt F) VO0_1.junk (kernelRun0_C c i arg1 harg1 arg2 harg2 arg3 harg3 arg4 harg4 hc0 hc1 hc2 x0 xs0 xs1).1)

/-- Case C's pieces for scratch `arg3`, which the kernel carries between points, cover it: 1 piece of `S16x1536` tiling it (Lib/Ring.lean `Piece.tiledL`). -/
theorem scover0_C_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) (y : S16x1536.Idx) :
    ∃ pc ∈ (kernelRun0_C c i arg1 harg1 arg2 harg2 arg3 harg3 arg4 harg4 hc0 hc1 hc2 x0 xs0 xs1).2.1, y ∈ pc.1.set :=
  View.cover_of_tiledL (kernelRun0_C c i arg1 harg1 arg2 harg2 arg3 harg3 arg4 harg4 hc0 hc1 hc2 x0 xs0 xs1).2.1 S16x1536.size (by sl_kernel_rfl) y

/-- What case C leaves in scratch `arg3`: its pieces read back over junk. -/
def sout0_C_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) : Vec F S16x1536 .bf16 :=
  VS0_0.read (Elt F) (VS0_0.writes (Elt F) VS0_0.junk (kernelRun0_C c i arg1 harg1 arg2 harg2 arg3 harg3 arg4 harg4 hc0 hc1 hc2 x0 xs0 xs1).2.1)

/-- Case C's pieces for scratch `arg4`, which the kernel carries between points, cover it: 1 piece of `S16x1536` tiling it (Lib/Ring.lean `Piece.tiledL`). -/
theorem scover0_C_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) (y : S16x1536.Idx) :
    ∃ pc ∈ (kernelRun0_C c i arg1 harg1 arg2 harg2 arg3 harg3 arg4 harg4 hc0 hc1 hc2 x0 xs0 xs1).2.2.1, y ∈ pc.1.set :=
  View.cover_of_tiledL (kernelRun0_C c i arg1 harg1 arg2 harg2 arg3 harg3 arg4 harg4 hc0 hc1 hc2 x0 xs0 xs1).2.2.1 S16x1536.size (by sl_kernel_rfl) y

/-- What case C leaves in scratch `arg4`: its pieces read back over junk. -/
def sout0_C_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) : Vec F S16x1536 .bf16 :=
  VS0_1.read (Elt F) (VS0_1.writes (Elt F) VS0_1.junk (kernelRun0_C c i arg1 harg1 arg2 harg2 arg3 harg3 arg4 harg4 hc0 hc1 hc2 x0 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1536 .f32 × Vec F S16x1536 .bf16 × Vec F S16x1536 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩), sout0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩))
  | n + 1, hn =>
    if h0 : (n + 1) % 16 = 0 then
      if h1 : 1 ≤ (n + 1) then
        False.elim (by have hN : n + 1 < 16 := lt_of_lt_of_eq hn (show cfg0.N = 16 from N_0); omega)
      else
        if h2 : (n + 1) % 16 = 15 then
          False.elim (by have hN : n + 1 < 16 := lt_of_lt_of_eq hn (show cfg0.N = 16 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩))
    else
      if h1 : 1 ≤ (n + 1) then
        if h2 : (n + 1) % 16 = 15 then
          (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (outsAt0 c n (Nat.lt_of_succ_lt hn)).2.1 (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (outsAt0 c n (Nat.lt_of_succ_lt hn)).2.1 (outsAt0 c n (Nat.lt_of_succ_lt hn)).2.2)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬1 ≤ t.val) (h2 : ¬t.val % 16 = 15) :
    outsAt0 V c t.val t.isLt = (out0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (fun h => h2 ((hcond0_2 t).mp h)) (iblk V c 0 t), sout0_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (fun h => h2 ((hcond0_2 t).mp h)) (iblk V c 0 t), sout0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (fun h => h2 ((hcond0_2 t).mp h)) (iblk V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 16 = 0) (h1 : 1 ≤ t.val) (h2 : ¬t.val % 16 = 15) :
    outsAt0 V c t.val t.isLt = (out0_B_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (fun h => h2 ((hcond0_2 t).mp h)) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (fun h => h2 ((hcond0_2 t).mp h)) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (fun h => h2 ((hcond0_2 t).mp h)) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 16 = 0) (h1 : 1 ≤ t.val) (h2 : t.val % 16 = 15) :
    outsAt0 V c t.val t.isLt = (out0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) ((hcond0_2 t).mpr h2) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) ((hcond0_2 t).mpr h2) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) ((hcond0_2 t).mpr h2) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2)) ∗ keep c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2)) ∗ keep c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2)) ∗ keep c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  by_cases h0 : t.val % 16 = 0
  · by_cases h1 : 1 ≤ t.val
    · exfalso; omega
    · by_cases h2 : t.val % 16 = 15
      · exfalso; omega
      · rw [show (dat V c).leavesExact 0 t = owns (c : Thread nD τ) (ms0_0 t) fullShare ((dat V c).after 0 t) from by
      unfold Dat.leavesExact; rw [liveAt0_0 t], after0_0]
        rw [Dat.leavesExact_idle (dat V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0 sout0_A_1; (try dsimp only)
          iintro ⟨⟨⟨HS0, HS1⟩, Hg⟩, Ho, ⟨%d0, H0⟩, ⟨%d1, H1⟩⟩
          iapply ((kernelRun0_A c (grid0.coords t) _ _ _ _ _ _ _ _ ((hcond0_0 t).mpr h0) (fun h => h1 ((hcond0_1 t).mp h)) (fun h => h2 ((hcond0_2 t).mp h)) (iblk V c 0 t)).2.2.2 _ Set.univ _)
          isplitl [H0]; · iexact H0
          isplitl [H1]; · iexact H1
          isplitl [HS0]; · iexact HS0
          isplitl [HS1]; · iexact HS1
          iintro ⟨H0, H1, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _)
              unfold owns; iexists _; isplitr
              swap; · iexact HS1
              ipureintro; exact View.read_writes_of_cover _ _ _ _ _ (scover0_A_1 c _ _ _ _ _ _ _ _ _ _ _ _ _)
            iexact Hg
          isplitl [Ho]; · iexact Ho
          isplitl [H0]; · iexact H0
          iexists _; iexact H1
        · exfalso; have hN : t.val < 16 := lt_of_lt_of_eq t.isLt (show cfg0.N = 16 from N_0); omega
  · by_cases h1 : 1 ≤ t.val
    · by_cases h2 : t.val % 16 = 15
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1_C t (fun h => h0 ((hcond0_0 t).mp h)) ((hcond0_1 t).mpr h1) ((hcond0_2 t).mpr h2)], after0_1]
        by_cases hz : t.val = 0
        · exfalso; have hN : t.val < 16 := lt_of_lt_of_eq t.isLt (show cfg0.N = 16 from N_0); omega
        · rw [PhiS_castSucc V c t, PhiS_pos V c _ _ hz]
          rw [outsAt0_C V c t h0 h1 h2]
          unfold out0_C_1 sout0_C_0 sout0_C_1; (try dsimp only)
          iintro ⟨⟨⟨HS0, HS1⟩, Hg⟩, Ho, ⟨%d0, H0⟩, ⟨%d1, H1⟩⟩
          iapply ((kernelRun0_C c (grid0.coords t) _ _ _ _ _ _ _ _ (fun h => h0 ((hcond0_0 t).mp h)) ((hcond0_1 t).mpr h1) ((hcond0_2 t).mpr h2) (iblk V c 0 t) _ _).2.2.2 Set.univ _)
          isplitl [H0]; · iexact H0
          isplitl [H1]; · iexists _; iexact H1
          isplitl [HS0]; · iexact HS0
          isplitl [HS1]; · iexact HS1
          iintro ⟨H0, ⟨%e1, H1⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _)
            iexact Hg
          isplitl [Ho]; · iexact Ho
          isplitl [H0]; · iexact H0
          unfold owns; iexists _; isplitr
          swap; · iexact H1
          ipureintro; exact View.read_writes_of_cover _ _ _ _ _ (cover0_C_1 c _ _ _ _ _ _ _ _ _ _ _ _ _ _ _)
      · rw [show (dat V c).leavesExact 0 t = owns (c : Thread nD τ) (ms0_0 t) fullShare ((dat V c).after 0 t) from by
      unfold Dat.leavesExact; rw [liveAt0_0 t], after0_0]
        rw [Dat.leavesExact_idle (dat V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        by_cases hz : t.val = 0
        · exfalso; have hN : t.val < 16 := lt_of_lt_of_eq t.isLt (show cfg0.N = 16 from N_0); omega
        · rw [PhiS_castSucc V c t, PhiS_pos V c _ _ hz]
          rw [outsAt0_B V c t h0 h1 h2]
          unfold sout0_B_0 sout0_B_1; (try dsimp only)
          iintro ⟨⟨⟨HS0, HS1⟩, Hg⟩, Ho, ⟨%d0, H0⟩, ⟨%d1, H1⟩⟩
          iapply ((kernelRun0_B c (grid0.coords t) _ _ _ _ _ _ _ _ (fun h => h0 ((hcond0_0 t).mp h)) ((hcond0_1 t).mpr h1) (fun h => h2 ((hcond0_2 t).mp h)) (iblk V c 0 t) _ _).2.2.2 _ Set.univ _)
          isplitl [H0]; · iexact H0
          isplitl [H1]; · iexact H1
          isplitl [HS0]; · iexact HS0
          isplitl [HS1]; · iexact HS1
          iintro ⟨H0, H1, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _)
            iexact Hg
          isplitl [Ho]; · iexact Ho
          isplitl [H0]; · iexact H0
          iexists _; iexact H1
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dat V c).Φ (Fin.last cfg0.N) ⊢ Pipeline.ΦA spec0 c :=
  Phi_out V c _ (by rw [Fin.val_last]; have : cfg0.N = 16 := N_0; omega)

end Cert.Kernel.Stats

end
-- ==== Proof.Kernel.MainRuns.lean ====
/- The second call (the quantised product): what its two cases of the grid are stated over — its windows' blocks,
   its branch condition in closed form, its buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Main

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer likewise. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer likewise. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer likewise. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer likewise. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 64 = 0 :=
  (fun t => by
    have ht : t.val < 64 := Nat.lt_of_lt_of_eq t.isLt N_1
    have e0 : (grid1.coords t 0).val = t.val / 1 % 64 := Pipeline.Grid.coords_val t 0 (by decide) rfl
    simp only [cond1_0, k1_cond1, e0]
    word_cmp
   : ∀ t : Fin grid1.N, cond1_0 (grid1.coords t) ↔ t.val % 64 = 0)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-! ## The kernel body on any staging memrefs: a subtype the run finds -/

/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1536 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1536 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1536 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1536x8960 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S12x8960 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8960 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x8960 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x8960 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x1536 .i8 := win1_9.stage (cfg1.slots t 9)
abbrev hs1_9 (t : Fin cfg1.N) : (ms1_9 t).IsWhole := hstage1_9 ((cfg1.slots t 9).cast nbuf1_9)
/-- The scratch operands: whole scoped buffers of the kernel's own, passed beside the windows. -/
abbrev scM1_0 : Memref sig .tc .vmem S1536x8960 .bf16 := Memref.whole cc1_scratch0

/-- The carried weights as a view: what they are is stated through it. -/
abbrev VS1_0 : View sig .tc .vmem S1536x8960 .bf16 := scM1_0.view
/-- One staging buffer of each output, through which its contents are stated. -/
abbrev VO1_7 : View sig .tc .vmem S256x8960 .bf16 := (Memref.whole cc1_stg7_0 : Memref sig .tc .vmem S256x8960 .bf16).view
abbrev VO1_8 : View sig .tc .vmem S1x8960 .f32 := (Memref.whole cc1_stg8_0 : Memref sig .tc .vmem S1x8960 .f32).view
abbrev VO1_9 : View sig .tc .vmem S256x1536 .i8 := (Memref.whole cc1_stg9_0 : Memref sig .tc .vmem S256x1536 .i8).view

/-- What rides along untouched: the first call's buffers at some contents, and the generator's register. -/
def keep (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ (∃ r, prngReg c r))

/-- The buffers no window stages, with the carried weights as a memref owned at some contents. -/
theorem PhiA1_eq (c : Dev nD) :
    (Pipeline.ΦA spec1 c : sProp 𝕄)
      = iprop((∃ d, owns (c : Thread nD τ) scM1_0 fullShare d) ∗ keep c) := by
  unfold Pipeline.ΦA keep; rw [scopedRest1_eq]; simp only [scM1_0, owns_whole]
  have assoc : ∀ P Q R : sProp 𝕄, iprop((P ∗ Q) ∗ R) = iprop(P ∗ Q ∗ R) := fun _ _ _ => Idealize.SL.BI.Entails.antisymm Idealize.SL.BI.sep_assoc Idealize.SL.BI.sep_assoc'
  have comm : ∀ P Q : sProp 𝕄, iprop(P ∗ Q) = iprop(Q ∗ P) := fun _ _ => Idealize.SL.BI.Entails.antisymm Idealize.SL.BI.sep_comm Idealize.SL.BI.sep_comm
  have key : ∀ P0 P1 P2 P3 P4 H g : sProp 𝕄, iprop((P0 ∗ P1 ∗ P2 ∗ P3 ∗ P4 ∗ H) ∗ g) = iprop(H ∗ (P0 ∗ P1 ∗ P2 ∗ P3 ∗ P4) ∗ g) := by
    intro P0 P1 P2 P3 P4 H g; rw [comm H]; simp only [assoc]; rw [comm g H]
  exact key _ _ _ _ _ _ _

end Cert.Kernel.Main

end
-- ==== Proof.Kernel.MainRun.lean ====
/- The second call's body run on any buffers, in each of its two cases. -/
module

public import proofs.«01_k».proof.Proof.Kernel.MainRuns

@[expose] public section

set_option maxRecDepth 16384

noncomputable section

namespace Cert.Kernel.Main

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's term is large: checking it walks past the default budget
set_option maxHeartbeats 4000000 in
/-- The first point: the weights are scaled and kept, the correction and this point's outputs are stored. The pieces each
    buffer ends with are what running the body finds. -/
noncomputable def kernelRun1_A (c : Dev nD) (i : grid1.Coords) (arg1 : Memref sig .tc .smem S1 .f32) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S1536x8960 .i8) (harg5 : arg5.IsWhole) (arg6 : Memref sig .tc .vmem S12x8960 .f32) (harg6 : arg6.IsWhole) (arg7 : Memref sig .tc .vmem S1x8960 .f32) (harg7 : arg7.IsWhole) (arg8 : Memref sig .tc .vmem S256x8960 .bf16) (harg8 : arg8.IsWhole) (arg9 : Memref sig .tc .vmem S1x8960 .f32) (harg9 : arg9.IsWhole) (arg10 : Memref sig .tc .vmem S256x1536 .i8) (harg10 : arg10.IsWhole) (arg11 : Memref sig .tc .vmem S1536x8960 .bf16) (harg11 : arg11.IsWhole) (hc0 : cond1_0 i)
    (x0 : Vec F S1 .f32) (x1 : Vec F S256x1536 .bf16) (x2 : Vec F S1x1536 .f32) (x3 : Vec F S1x1536 .f32) (x4 : Vec F S1536x8960 .i8) (x5 : Vec F S12x8960 .f32) (x6 : Vec F S1x8960 .f32) :
    Σ' (L7 : List (View.Piece (Elt F) S256x8960 .bf16)), Σ' (L8 : List (View.Piece (Elt F) S1x8960 .f32)), Σ' (L9 : List (View.Piece (Elt F) S256x1536 .i8)), { LS0 : List (View.Piece (Elt F) S1536x8960 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc1_quant_linear i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_quant_linear_eq_skeleton]; unfold cc1_quant_linear_skel
    simp only [k1_part25_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS0

-- the run's term is large: checking it walks past the default budget
set_option maxHeartbeats 2000000 in
/-- Every later point: the kept weights and the correction are read and left as they are. -/
noncomputable def kernelRun1_B (c : Dev nD) (i : grid1.Coords) (arg1 : Memref sig .tc .smem S1 .f32) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S1536x8960 .i8) (harg5 : arg5.IsWhole) (arg6 : Memref sig .tc .vmem S12x8960 .f32) (harg6 : arg6.IsWhole) (arg7 : Memref sig .tc .vmem S1x8960 .f32) (harg7 : arg7.IsWhole) (arg8 : Memref sig .tc .vmem S256x8960 .bf16) (harg8 : arg8.IsWhole) (arg9 : Memref sig .tc .vmem S1x8960 .f32) (harg9 : arg9.IsWhole) (arg10 : Memref sig .tc .vmem S256x1536 .i8) (harg10 : arg10.IsWhole) (arg11 : Memref sig .tc .vmem S1536x8960 .bf16) (harg11 : arg11.IsWhole) (hc0 : ¬cond1_0 i)
    (x0 : Vec F S1 .f32) (x1 : Vec F S256x1536 .bf16) (x2 : Vec F S1x1536 .f32) (x3 : Vec F S1x1536 .f32) (x4 : Vec F S1536x8960 .i8) (x5 : Vec F S12x8960 .f32) (x6 : Vec F S1x8960 .f32) (x8 : Vec F S1x8960 .f32) (xs0 : Vec F S1536x8960 .bf16) :
    Σ' (L7 : List (View.Piece (Elt F) S256x8960 .bf16)), { L9 : List (View.Piece (Elt F) S256x1536 .i8) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare x8 ∗ (∃ f, arg10.view.loc (c : Thread nD τ) ↦[arg10.view.set]{fullShare} arg10.view.writes (Elt F) f L9) ∗ owns (c : Thread nD τ) arg11 fullShare xs0) -∗ K ⟨⟩))
          ⊢ wp frame (wpE (defs₀ (F := F)) Variants.none c none) E (cc1_quant_linear i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_quant_linear_eq_skeleton]; unfold cc1_quant_linear_skel
    simp only [k1_part25_eq_skeleton, k1_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]; · iexists _; iexact H9
    iexists _; isplitr; · ipureintro; exact harg11.read_unread _
    iexact HS0

end Cert.Kernel.Main

end
-- ==== Proof.Kernel.Main.lean ====
/- The second call as a region: what its buffers hold point by point (the weights kept from the first point on, the
   correction, the product's rows and the codes), the proof data, and its body's obligation. -/
module

public import proofs.«01_k».proof.Proof.Kernel.MainRun

@[expose] public section

set_option maxRecDepth 16384

noncomputable section

namespace Cert.Kernel.Main

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body leaves -/

/-- The body run at a first point: the pieces its outputs and the kept weights end with. -/
abbrev runA (c : Dev nD) (t : Fin cfg1.N) (h0 : t.val % 64 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (iblk V c 0 t) (iblk V c 1 t) (iblk V c 2 t) (iblk V c 3 t) (iblk V c 4 t) (iblk V c 5 t) (iblk V c 6 t)

/-- The grid's first point. -/
abbrev pt0 : Fin cfg1.N := ⟨0, by have : cfg1.N = 64 := N_1; omega⟩

/-- The kept weights: what the first point leaves in the carried buffer. -/
def wd (c : Dev nD) : Vec F S1536x8960 .bf16 := VS1_0.read (Elt F) (VS1_0.writes (Elt F) VS1_0.junk (runA V c pt0 (Nat.zero_mod _)).2.2.2.1)
/-- The correction: what the first point leaves in its output. -/
def corr (c : Dev nD) : Vec F S1x8960 .f32 := VO1_8.read (Elt F) (VO1_8.writes (Elt F) VO1_8.junk (runA V c pt0 (Nat.zero_mod _)).2.1)

/-- The body run at a later point, over the kept weights and the correction. -/
abbrev runB (c : Dev nD) (t : Fin cfg1.N) (h0 : ¬t.val % 64 = 0) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (corr V c) (wd V c)

/-- The pieces of the product's rows, and of the codes, that point `t` stores. -/
def yPieces (c : Dev nD) (t : Fin cfg1.N) : List (View.Piece (Elt F) S256x8960 .bf16) :=
  if h : t.val % 64 = 0 then (runA V c t h).1 else (runB V c t h).1
def qPieces (c : Dev nD) (t : Fin cfg1.N) : List (View.Piece (Elt F) S256x1536 .i8) :=
  if h : t.val % 64 = 0 then (runA V c t h).2.2.1 else (runB V c t h).2.1
/-- The product's rows, and the codes, that point `t` leaves. -/
def yAt (c : Dev nD) (t : Fin cfg1.N) : Vec F S256x8960 .bf16 := VO1_7.read (Elt F) (VO1_7.writes (Elt F) VO1_7.junk (yPieces V c t))
def qAt (c : Dev nD) (t : Fin cfg1.N) : Vec F S256x1536 .i8 := VO1_9.read (Elt F) (VO1_9.writes (Elt F) VO1_9.junk (qPieces V c t))

/-! Every point's pieces tile their buffers. -/

theorem coverA_7 (c : Dev nD) (t : Fin cfg1.N) (h0 : t.val % 64 = 0) (y : S256x8960.Idx) : ∃ pc ∈ (runA V c t h0).1, y ∈ pc.1.set :=
  View.cover_of_tiledL (runA V c t h0).1 ![256, 1280] (by sl_kernel_rfl) y
theorem coverA_8 (c : Dev nD) (t : Fin cfg1.N) (h0 : t.val % 64 = 0) (y : S1x8960.Idx) : ∃ pc ∈ (runA V c t h0).2.1, y ∈ pc.1.set :=
  View.cover_of_tiledL (runA V c t h0).2.1 ![1, 1280] (by sl_kernel_rfl) y
theorem coverA_9 (c : Dev nD) (t : Fin cfg1.N) (h0 : t.val % 64 = 0) (y : S256x1536.Idx) : ∃ pc ∈ (runA V c t h0).2.2.1, y ∈ pc.1.set :=
  View.cover_of_tiledL (runA V c t h0).2.2.1 S256x1536.size (by sl_kernel_rfl) y
theorem coverA_S (c : Dev nD) (t : Fin cfg1.N) (h0 : t.val % 64 = 0) (y : S1536x8960.Idx) : ∃ pc ∈ (runA V c t h0).2.2.2.1, y ∈ pc.1.set :=
  View.cover_of_tiledL (runA V c t h0).2.2.2.1 ![128, 1280] (by sl_kernel_rfl) y
theorem coverB_7 (c : Dev nD) (t : Fin cfg1.N) (h0 : ¬t.val % 64 = 0) (y : S256x8960.Idx) : ∃ pc ∈ (runB V c t h0).1, y ∈ pc.1.set :=
  View.cover_of_tiledL (runB V c t h0).1 ![256, 1280] (by sl_kernel_rfl) y
theorem coverB_9 (c : Dev nD) (t : Fin cfg1.N) (h0 : ¬t.val % 64 = 0) (y : S256x1536.Idx) : ∃ pc ∈ (runB V c t h0).2.1, y ∈ pc.1.set :=
  View.cover_of_tiledL (runB V c t h0).2.1 S256x1536.size (by sl_kernel_rfl) y

/-! ## The proof data -/

/-- What holds between points: before the first the buffers no window stages at anything; afterwards the kept weights. -/
def PhiS (c : Dev nD) : ℕ → sProp 𝕄
  | 0 => Pipeline.ΦA spec1 c
  | _ + 1 => iprop(owns (c : Thread nD τ) scM1_0 fullShare (wd V c) ∗ keep c)

theorem PhiS_pos (c : Dev nD) (n : ℕ) (h : n ≠ 0) : PhiS V c n = iprop(owns (c : Thread nD τ) scM1_0 fullShare (wd V c) ∗ keep c) := by
  cases n with
  | zero => exact absurd rfl h
  | succ n => rfl

/-- The proof data: the arrays as the region finds them; after the body each input's buffer at its block, the outputs at
    what the points leave; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => yAt V c t
    | ⟨8, _⟩ => corr V c
    | ⟨9, _⟩ => qAt V c t
  Φ t := PhiS V c t.val
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = yAt V c t := by dsimp only [dat]
theorem after1_8 (c : Dev nD) (t : Fin cfg1.N) : (dat V c).after 8 t = corr V c := by dsimp only [dat]
theorem after1_9 (c : Dev nD) (t : Fin cfg1.N) : (dat V c).after 9 t = qAt V c t := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d

/-- The correction's window is left alone exactly where the weights are not made. -/
theorem idle1_8_A : ∀ t : Fin cfg1.N, t.val % 64 = 0 → cfg1.idle 8 (grid1.coords t) = false := by decide +kernel
theorem idle1_8_B : ∀ t : Fin cfg1.N, ¬t.val % 64 = 0 → cfg1.idle 8 (grid1.coords t) = true := by decide +kernel

/-- After the first point the correction's buffer holds the correction. -/
theorem before1_8 (c : Dev nD) : ∀ (n : ℕ) (hn : n < cfg1.N) (d), n ≠ 0 → (dat V c).before 8 ⟨n, hn⟩ d = corr V c := by
  intro n
  have hN : cfg1.N = 64 := N_1
  induction n with
  | zero => intro _ _ h; exact absurd rfl h
  | succ n ih =>
    intro hn d _
    have hn' : n < cfg1.N := by omega
    rw [Dat.before_of_pos (dat V c) 8 ⟨n + 1, hn⟩ (Nat.succ_ne_zero n) ((cfg1.win 8).fetch_out rfl _) d,
      if_neg (fun h => by
        have e := (flush1_8 ⟨n, hn'⟩).mp h
        simp only at e; omega)]
    show (dat V c).left 8 ⟨n, hn'⟩ d = _
    unfold Dat.left
    by_cases hz : n = 0
    · subst hz
      rw [idle1_8_A ⟨0, hn'⟩ (Nat.zero_mod _)]
      show (dat V c).kept 8 ⟨0, hn'⟩ d = _
      unfold Dat.kept
      rw [Pipeline.fill_of_clip_none 8 _ (fun _ => rfl) d ((dat V c).after 8 ⟨0, hn'⟩), Pipeline.Window.fill_cut, after1_8]
    · rw [idle1_8_B ⟨n, hn'⟩ (by simp only; omega)]
      exact ih hn' d hz

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

theorem leaves1_0 (c : Dev nD) (t : Fin cfg1.N) : (dat V c).leavesExact 0 t = owns (c : Thread nD τ) (ms1_0 t) fullShare (iblk V c 0 t) := by
  unfold Dat.leavesExact; rw [liveAt1_0 t, after1_0]
theorem leaves1_1 (c : Dev nD) (t : Fin cfg1.N) : (dat V c).leavesExact 1 t = owns (c : Thread nD τ) (ms1_1 t) fullShare (iblk V c 1 t) := by
  unfold Dat.leavesExact; rw [liveAt1_1 t, after1_1]
theorem leaves1_2 (c : Dev nD) (t : Fin cfg1.N) : (dat V c).leavesExact 2 t = owns (c : Thread nD τ) (ms1_2 t) fullShare (iblk V c 2 t) := by
  unfold Dat.leavesExact; rw [liveAt1_2 t, after1_2]
theorem leaves1_3 (c : Dev nD) (t : Fin cfg1.N) : (dat V c).leavesExact 3 t = owns (c : Thread nD τ) (ms1_3 t) fullShare (iblk V c 3 t) := by
  unfold Dat.leavesExact; rw [liveAt1_3 t, after1_3]
theorem leaves1_4 (c : Dev nD) (t : Fin cfg1.N) : (dat V c).leavesExact 4 t = owns (c : Thread nD τ) (ms1_4 t) fullShare (iblk V c 4 t) := by
  unfold Dat.leavesExact; rw [liveAt1_4 t, after1_4]
theorem leaves1_5 (c : Dev nD) (t : Fin cfg1.N) : (dat V c).leavesExact 5 t = owns (c : Thread nD τ) (ms1_5 t) fullShare (iblk V c 5 t) := by
  unfold Dat.leavesExact; rw [liveAt1_5 t, after1_5]
theorem leaves1_6 (c : Dev nD) (t : Fin cfg1.N) : (dat V c).leavesExact 6 t = owns (c : Thread nD τ) (ms1_6 t) fullShare (iblk V c 6 t) := by
  unfold Dat.leavesExact; rw [liveAt1_6 t, after1_6]
theorem leaves1_7 (c : Dev nD) (t : Fin cfg1.N) : (dat V c).leavesExact 7 t = owns (c : Thread nD τ) (ms1_7 t) fullShare (yAt V c t) := by
  unfold Dat.leavesExact; rw [show cfg1.idle 7 (cfg1.grid.coords t) = false from rfl, after1_7]
theorem leaves1_9 (c : Dev nD) (t : Fin cfg1.N) : (dat V c).leavesExact 9 t = owns (c : Thread nD τ) (ms1_9 t) fullShare (qAt V c t) := by
  unfold Dat.leavesExact; rw [show cfg1.idle 9 (cfg1.grid.coords t) = false from rfl, after1_9]
/-- The correction's buffer is handed back holding the correction, at every point. -/
theorem leaves1_8_A (c : Dev nD) (t : Fin cfg1.N) (h0 : t.val % 64 = 0) : (dat V c).leavesExact 8 t = owns (c : Thread nD τ) (ms1_8 t) fullShare (corr V c) := by
  unfold Dat.leavesExact; rw [idle1_8_A t h0, after1_8]
theorem leaves1_8_B (c : Dev nD) (t : Fin cfg1.N) (h0 : ¬t.val % 64 = 0) :
    (owns (c : Thread nD τ) (ms1_8 t) fullShare (corr V c) : sProp 𝕄) ⊢ (dat V c).leavesExact 8 t := by
  unfold Dat.leavesExact; rw [idle1_8_B t h0]
  have hb : ∀ d, (dat V c).before 8 t d = corr V c := fun d => before1_8 V c t.val t.isLt d (fun h => h0 (by rw [h]))
  cases (cfg1.win 8).flush t
  · iintro H; iexists (corr V c); rw [hb]; iexact H
  · simp only [after1_8]; iintro H; iexact H

set_option maxHeartbeats 4800000 in
/-- The body at the first point. -/
theorem sound_bodyA (c : Dev nD) (t : Fin cfg1.N) (h0 : t.val % 64 = 0) :
    bodyPre V c t ⊢ wp frame (wpE (defs₀ (F := F)) Variants.none c none) Set.univ (bodyAt1 t) (fun _ => bodyPost V c t) := by
  obtain rfl : t = pt0 := Fin.ext (by have hN : cfg1.N = 64 := N_1; have := t.isLt; show t.val = 0; omega)
  unfold bodyPre bodyPost bodyAt1
  simp only [before1_0, before1_1, before1_2, before1_3, before1_4, before1_5, before1_6, leaves1_0, leaves1_1, leaves1_2, leaves1_3, leaves1_4, leaves1_5, leaves1_6, leaves1_7, leaves1_9]
  rw [leaves1_8_A V c pt0 h0]
  rw [show (dat V c).owesAt () (pt0 : Fin cfg1.N).succ = (dat V c).owesAt () (pt0 : Fin cfg1.N).castSucc from rfl]
  rw [show (dat V c).Φ (pt0 : Fin cfg1.N).succ = iprop(owns (c : Thread nD τ) scM1_0 fullShare (wd V c) ∗ keep c) from rfl,
    show (dat V c).Φ (pt0 : Fin cfg1.N).castSucc = Pipeline.ΦA spec1 c from rfl, PhiA1_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA V c pt0 h0).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  iintro ⟨H0, H1, H2, H3, H4, H5, H6, ⟨%e7, H7⟩, ⟨%e8, H8⟩, ⟨%e9, H9⟩, ⟨%es, HS0⟩⟩
  isplitl [HS0 Hg]
  · isplitl [HS0]
    · unfold owns; iexists _; isplitr
      swap; · iexact HS0
      ipureintro; exact View.read_writes_of_cover _ _ _ _ _ (coverA_S V c pt0 h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns yAt yPieces; rw [dif_pos h0]; iexists _; isplitr
    swap; · iexact H7
    ipureintro; exact View.read_writes_of_cover _ _ _ _ _ (coverA_7 V c pt0 h0)
  isplitl [H8]
  · unfold owns corr; iexists _; isplitr
    swap; · iexact H8
    ipureintro; exact View.read_writes_of_cover _ _ _ _ _ (coverA_8 V c pt0 h0)
  unfold owns qAt qPieces; rw [dif_pos h0]; iexists _; isplitr
  swap; · iexact H9
  ipureintro; exact View.read_writes_of_cover _ _ _ _ _ (coverA_9 V c pt0 h0)

set_option maxHeartbeats 4800000 in
/-- The body at a later point. -/
theorem sound_bodyB (c : Dev nD) (t : Fin cfg1.N) (h0 : ¬t.val % 64 = 0) :
    bodyPre V c t ⊢ wp frame (wpE (defs₀ (F := F)) Variants.none c none) Set.univ (bodyAt1 t) (fun _ => bodyPost V c t) := by
  have hz : t.val ≠ 0 := fun h => h0 (by rw [h])
  unfold bodyPre bodyPost bodyAt1
  simp only [before1_0, before1_1, before1_2, before1_3, before1_4, before1_5, before1_6, leaves1_0, leaves1_1, leaves1_2, leaves1_3, leaves1_4, leaves1_5, leaves1_6, leaves1_7, leaves1_9]
  simp only [show ∀ d, (dat V c).before 8 t d = corr V c from fun d => before1_8 V c t.val t.isLt d hz]
  rw [show (dat V c).owesAt () t.succ = (dat V c).owesAt () t.castSucc from rfl]
  rw [show (dat V c).Φ t.succ = iprop(owns (c : Thread nD τ) scM1_0 fullShare (wd V c) ∗ keep c) from rfl,
    show (dat V c).Φ t.castSucc = PhiS V c t.val from rfl, PhiS_pos V c t.val hz]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB V c t h0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [HS0]; · iexact HS0
  iintro ⟨H0, H1, H2, H3, H4, H5, H6, ⟨%e7, H7⟩, H8, ⟨%e9, H9⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns yAt yPieces; rw [dif_neg h0]; iexists _; isplitr
    swap; · iexact H7
    ipureintro; exact View.read_writes_of_cover _ _ _ _ _ (coverB_7 V c t h0)
  isplitl [H8]
  · iapply (leaves1_8_B V c t h0); iexact H8
  unfold owns qAt qPieces; rw [dif_neg h0]; iexists _; isplitr
  swap; · iexact H9
  ipureintro; exact View.read_writes_of_cover _ _ _ _ _ (coverB_9 V c t h0)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  by_cases h0 : t.val % 64 = 0
  · exact triple_restated (sound_bodyA V c t h0) rfl .rfl fun _ => .rfl
  · exact triple_restated (sound_bodyB V c t h0) rfl .rfl fun _ => .rfl

/-- What the launch hands the region is the invariant before the first point, -/
theorem hin (c : Dev nD) : Pipeline.ΦA spec1 c ⊢ (dat V c).Φ 0 := by
  rw [show (dat V c).Φ 0 = Pipeline.ΦA spec1 c from rfl]

/-- and after the last the kept weights' contents are forgotten. -/
theorem hout (c : Dev nD) : (dat V c).Φ (Fin.last cfg1.N) ⊢ Pipeline.ΦA spec1 c := by
  rw [show (dat V c).Φ (Fin.last cfg1.N) = PhiS V c cfg1.N from rfl, PhiS_pos V c _ (by have hN : cfg1.N = 64 := N_1; omega), PhiA1_eq]
  iintro ⟨HS0, Hg⟩
  isplitl [HS0]; · iexists _; iexact HS0
  iexact Hg

end Cert.Kernel.Main

end
-- ==== Proof.Kernel.Run.lean ====
/- The program's run: the two calls' records placed in @main, and what every unscoped buffer holds at the end. -/
module

public import proofs.«01_k».proof.Proof.Gen.Kernel.Regions
public import proofs.«01_k».proof.Proof.Kernel.Stats
public import proofs.«01_k».proof.Proof.Kernel.Main
public import Idealize.ShloMosaic.Lib.Pipeline.RegionArraysS
public import Idealize.ShloMosaic.Lib.Pipeline.Kit

@[expose] public section

noncomputable section

namespace Cert.Kernel.Run

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! ## @main's run from the two records -/

section
variable (outs : Outs (F := F))

set_option backward.isDefEq.respectTransparency.types false in
/-- From one record per call, entered from the state before it and left at the state after it: every execution ends, with
    every unscoped buffer at the last valuation and every semaphore counter at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => (∀ c : Dev nD, ∀ b ∈ Pipeline.ucRefs τ sig, r.2.mem (c, b) = V5 m outs c b) ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => ∀ b ∈ Pipeline.ucRefs τ sig, s.mem (c, b) = V5 m outs c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact h
    · iexact HSI

end

/-! ## What the calls leave -/

local notation "𝕄" => MT nD τ sig Unit (Elt F) ℕ (UR sig nD τ) ℕ

/-- The unscoped buffers as the first call leaves them, -/
def left0 (c : Dev nD) : Valuation τ sig (Elt F) :=
  Pipeline.afterRegion (Stats.dat (fun c b => V1 m c (Proc.devRef .tc b)) c) (V1 m c)
/-- as contents by item, -/
def outs0 : Outs (F := F) := fun _ r c => left0 m c (Proc.devRef .tc r)
/-- and as the second call leaves them. -/
def left1 (c : Dev nD) : Valuation τ sig (Elt F) :=
  Pipeline.afterRegion (Main.dat (fun c b => V3 m (outs0 m) c (Proc.devRef .tc b)) c) (V3 m (outs0 m) c)
/-- What the two calls leave, by item. -/
def outs : Outs (F := F) := fun J r c => if J = 2 then left0 m c (Proc.devRef .tc r) else left1 m c (Proc.devRef .tc r)

theorem V2_outs (c : Dev nD) : V2 m (outs m) c = V2 m (outs0 m) c := rfl
theorem V3_outs (c : Dev nD) : V3 m (outs m) c = V3 m (outs0 m) c := rfl

/-- A held buffer is the name of a buffer of the core. -/
theorem exists_ref (b : DevRef τ sig) (hb : b ∈ Pipeline.ucRefs τ sig) : ∃ r : Ref sig .tc, b = Proc.devRef .tc r := by
  obtain ⟨r, -, e⟩ := Finset.mem_map.mp (Finset.mem_filter.mp hb).1
  exact ⟨r, e.symm⟩

theorem out_arr0 : ∀ w, (cfg0.win w).isOut = true → Pipeline.arrRef cfg0.spec w = main_v1 := by decide
theorem out_arr1 : ∀ w, (cfg1.win w).isOut = true →
    Pipeline.arrRef cfg1.spec w = main_v4_0 ∨ Pipeline.arrRef cfg1.spec w = main_v4_1 ∨ Pipeline.arrRef cfg1.spec w = main_v4_2 := by decide

theorem left0_eq (c : Dev nD) (b : DevRef τ sig) (hb : b ∈ Pipeline.ucRefs τ sig) : left0 m c b = V2 m (outs m) c b := by
  obtain ⟨r, rfl⟩ := exists_ref b hb
  by_cases h : r = main_v1
  · subst h
    exact (Function.update_self (Proc.devRef (τ := τ) .tc main_v1) _ (V1 m c)).symm
  · rw [show V2 m (outs m) c (Proc.devRef .tc r) = V1 m c (Proc.devRef .tc r) from V2_of m _ c r (by simpa using h)]
    refine Pipeline.afterRegion_keeps _ _ launch0.win.arr_inj (fun w => Stats.A_eq _ c w) r (fun w hw => ?_)
    by_contra hc
    exact h (hw.symm.trans (out_arr0 w (Bool.eq_true_of_not_eq_false hc)))

theorem left1_eq (c : Dev nD) (b : DevRef τ sig) (hb : b ∈ Pipeline.ucRefs τ sig) : left1 m c b = V4 m (outs m) c b := by
  obtain ⟨r, rfl⟩ := exists_ref b hb
  by_cases h : r ∈ ([main_v4_0, main_v4_1, main_v4_2] : List (Ref sig .tc))
  · have h2 : main_v4_0 ≠ main_v4_2 := by decide
    have h1 : main_v4_0 ≠ main_v4_1 := by decide
    have h3 : main_v4_1 ≠ main_v4_2 := by decide
    simp only [List.mem_cons, List.not_mem_nil, or_false] at h
    rcases h with rfl | rfl | rfl
    · simp only [V4, Function.update_self, Function.update_of_ne (StableHlo.devRef_ne_of_ne h2 : (Proc.devRef .tc main_v4_0 : DevRef τ sig) ≠ _),
        Function.update_of_ne (StableHlo.devRef_ne_of_ne h1 : (Proc.devRef .tc main_v4_0 : DevRef τ sig) ≠ _)]
      rfl
    · simp only [V4, Function.update_self, Function.update_of_ne (StableHlo.devRef_ne_of_ne h3 : (Proc.devRef .tc main_v4_1 : DevRef τ sig) ≠ _)]
      rfl
    · simp only [V4, Function.update_self]
      rfl
  · rw [show V4 m (outs m) c (Proc.devRef .tc r) = V3 m (outs m) c (Proc.devRef .tc r) from V4_of m _ c r h]
    refine Pipeline.afterRegion_keeps _ _ launch1.win.arr_inj (fun w => Main.A_eq _ c w) r (fun w hw => ?_)
    by_contra hc
    refine h ?_
    have e : r = main_v4_0 ∨ r = main_v4_1 ∨ r = main_v4_2 := hw ▸ out_arr1 w (Bool.eq_true_of_not_eq_false hc)
    simpa only [List.mem_cons, List.not_mem_nil, or_false] using e

/-! ## The records -/

/-- Both calls' proof data. -/
def pdats : (p : Fin 2) → (c : Dev nD) → Dat τ (Elt F) Unit ℕ (UR sig nD τ) ℕ (cfgs p) c
  | ⟨0, _⟩ => fun c => Stats.dat (fun c b => V1 m c (Proc.devRef .tc b)) c
  | ⟨1, _⟩ => fun c => Main.dat (fun c b => V3 m (outs0 m) c (Proc.devRef .tc b)) c

/-- The one level is assigned to every cell of a core. -/
abbrev lvls : GSem nD τ sig → Finset Unit := fun g => if g.1.2 = .tc then {()} else ∅
abbrev lvl0 : GSem nD τ sig → Unit → ℕ := fun _ _ => 0

/-- Between items the core owes nothing and keeps its generator register. -/
abbrev rest (c : Dev nD) : sProp 𝕄 :=
  iprop((∃ W, owes (c : Thread nD τ) (0 : CellTallies nD τ sig Unit) W) ∗ (∃ r, prngReg c r) ∗ emp)

theorem cut (p : Fin 2) : Pipeline.LevelCut (nD := nD) (pcfgs (F := F)) adm () lvls lvl0 p (fun _ => 0) (fun _ => 0) where
  hι _ _ _ := by
    show () ∈ (if _ then _ else _)
    rw [if_pos rfl]; exact Finset.mem_singleton_self _
  hιb _ _ _ := le_refl _
  hD _ _ _ h := absurd h (lt_irrefl _)

theorem share0 (c : Dev nD) (w) : (pdats m 0 c).share w = fullShare := by unfold Dat.share; split <;> rfl
theorem share1 (c : Dev nD) (w) : (pdats m 1 c).share w = fullShare := by unfold Dat.share; split <;> rfl
theorem arr0 (c : Dev nD) (w) : (pdats m 0 c).arrAt w 0 = V1 m c (Proc.devRef .tc (Pipeline.arrRef (Pipeline.pin (pcfgs (F := F)) adm 0).spec w)) :=
  Stats.A_eq (fun c b => V1 m c (Proc.devRef .tc b)) c w
theorem arr1 (c : Dev nD) (w) : (pdats m 1 c).arrAt w 0 = V3 m (outs0 m) c (Proc.devRef .tc (Pipeline.arrRef (Pipeline.pin (pcfgs (F := F)) adm 1).spec w)) :=
  Main.A_eq (fun c b => V3 m (outs0 m) c (Proc.devRef .tc b)) c w

set_option backward.isDefEq.respectTransparency.types false in
/-- The first call's record. -/
def R0 : RegionSeg (pcfgs (F := F)) adm (pdats m) () defs₀ Variants.none lvls lvl0 0 :=
  RegionSeg.ofHeldIn (pcfgs (F := F)) adm (pdats m) () defs₀ Variants.none lvls lvl0 0 (fun _ => 0) (Pipeline.ucRefs τ sig)
    (fun c => iprop(∃ r, prngReg c r)) (fun c => iprop(∃ r, prngReg c r)) launch0.toP rfl
    (fun c => (Stats.body_obligation (fun c b => V1 m c (Proc.devRef .tc b)) c).loose) (fun _ _ => rfl) (fun _ => rfl) (share0 m)
    (fun c => Stats.hin (fun c b => V1 m c (Proc.devRef .tc b)) c) (fun c => Stats.hout (fun c b => V1 m c (Proc.devRef .tc b)) c) (fun _ => 0) (cut 0) (fun _ => iprop(emp)) (V1 m) (arr0 m)

set_option backward.isDefEq.respectTransparency.types false in
/-- The second call's record. -/
def R1 : RegionSeg (pcfgs (F := F)) adm (pdats m) () defs₀ Variants.none lvls lvl0 1 :=
  RegionSeg.ofHeldIn (pcfgs (F := F)) adm (pdats m) () defs₀ Variants.none lvls lvl0 1 (fun _ => 0) (Pipeline.ucRefs τ sig)
    (fun c => iprop(∃ r, prngReg c r)) (fun c => iprop(∃ r, prngReg c r)) launch1.toP rfl
    (fun c => (Main.body_obligation (fun c b => V3 m (outs0 m) c (Proc.devRef .tc b)) c).loose) (fun _ _ => rfl) (fun _ => rfl) (share1 m)
    (fun c => Main.hin (fun c b => V3 m (outs0 m) c (Proc.devRef .tc b)) c) (fun c => Main.hout (fun c b => V3 m (outs0 m) c (Proc.devRef .tc b)) c) (fun _ => 0) (cut 1) (fun _ => iprop(emp)) (V3 m (outs0 m)) (arr1 m)

theorem hS0 : Pipeline.arrRefs (pcfgs (F := F) 0).spec ⊆ Pipeline.ucRefs τ sig := Pipeline.arrRefs_sub_ucRefs _ launch0.win.arr_unscoped
theorem hS1 : Pipeline.arrRefs (pcfgs (F := F) 1).spec ⊆ Pipeline.ucRefs τ sig := Pipeline.arrRefs_sub_ucRefs _ launch1.win.arr_unscoped

set_option backward.isDefEq.respectTransparency.types false in
set_option maxHeartbeats 2000000 in
theorem hpre0 (c : Dev nD) : iprop(StableHlo.held (c : Thread nD τ) (Pipeline.ucRefs τ sig) (V1 m c) ∗ rest (F := F) c) ⊢ (R0 m).pre c :=
  RegionSeg.ofHeldIn_pre (pcs := pcfgs (F := F)) (a := adm) (pdats := pdats m) (ι := ()) (defs₀ := defs₀) (𝒱₀ := Variants.none) (L := lvls) (lv := lvl0) (p := 0)
    (D := fun _ => 0) (X := fun c => iprop(∃ r, prngReg c r)) (Y := fun c => iprop(∃ r, prngReg c r)) (R := fun _ => iprop(emp)) (W := V1 m)
    (kit := launch0.toP) (b := fun _ => 0) (hcut := cut 0) (hW := arr0 m) hS0 c
set_option backward.isDefEq.respectTransparency.types false in
set_option maxHeartbeats 2000000 in
theorem hpre1 (c : Dev nD) : iprop(StableHlo.held (c : Thread nD τ) (Pipeline.ucRefs τ sig) (V3 m (outs m) c) ∗ rest (F := F) c) ⊢ (R1 m).pre c :=
  RegionSeg.ofHeldIn_pre (pcs := pcfgs (F := F)) (a := adm) (pdats := pdats m) (ι := ()) (defs₀ := defs₀) (𝒱₀ := Variants.none) (L := lvls) (lv := lvl0) (p := 1)
    (D := fun _ => 0) (X := fun c => iprop(∃ r, prngReg c r)) (Y := fun c => iprop(∃ r, prngReg c r)) (R := fun _ => iprop(emp)) (W := V3 m (outs0 m))
    (kit := launch1.toP) (b := fun _ => 0) (hcut := cut 1) (hW := arr1 m) hS1 c
set_option backward.isDefEq.respectTransparency.types false in
theorem hpost0 (c : Dev nD) : (R0 m).post c ⊢ iprop(StableHlo.held (c : Thread nD τ) (Pipeline.ucRefs τ sig) (V2 m (outs m) c) ∗ rest (F := F) c) := by
  rw [← StableHlo.held_congr (c : Thread nD τ) (left0_eq m c)]
  exact RegionSeg.ofHeldIn_post hS0 c
set_option backward.isDefEq.respectTransparency.types false in
theorem hpost1 (c : Dev nD) : (R1 m).post c ⊢ iprop(StableHlo.held (c : Thread nD τ) (Pipeline.ucRefs τ sig) (V4 m (outs m) c) ∗ rest (F := F) c) := by
  rw [← StableHlo.held_congr (c : Thread nD τ) (left1_eq m c)]
  exact RegionSeg.ofHeldIn_post hS1 c

/-- What the launch deals core `c` makes its rest state. -/
theorem hE0_core (ρ : Dev nD → PrngReg) (c : Dev nD) : iprop(unscopedSems0 c ∗ owes (c : Thread nD τ) (0 : CellTallies nD τ sig Unit) ∅
    ∗ Pipeline.launchCred (fun _ => 0) c ∗ prngReg c (ρ c) ∗ emp) ⊢ rest (F := F) c := by
  iintro ⟨_, Ho, _, Hp, He⟩
  isplitl [Ho]; · iexists _; iexact Ho
  isplitl [Hp]; · iexists _; iexact Hp
  iexact He

/-- The launch makes the rest state on every core. -/
theorem hE0 (ρ : Dev nD → PrngReg) : iprop((bigSep Finset.univ fun c : Dev nD => iprop(unscopedSems0 c ∗ owes (c : Thread nD τ) (0 : CellTallies nD τ sig Unit) ∅
      ∗ Pipeline.launchCred (fun _ => 0) c ∗ prngReg c (ρ c) ∗ emp)) ∗ levAts lvls lvl0)
    ⊢ (|={Set.univ}=> bigSep Finset.univ (rest (F := F)) : sProp 𝕄) := by
  have h : (bigSep Finset.univ fun c : Dev nD => iprop(unscopedSems0 c ∗ owes (c : Thread nD τ) (0 : CellTallies nD τ sig Unit) ∅
      ∗ Pipeline.launchCred (fun _ => 0) c ∗ prngReg c (ρ c) ∗ emp)) ⊢ (bigSep Finset.univ (rest (F := F)) : sProp 𝕄) :=
    bigSep_mono fun c _ => hE0_core ρ c
  iintro ⟨H, _⟩
  ihave H' := h $$ H
  imodintro
  iexact H'

/-- Every execution of @main ends with every unscoped buffer at the last valuation and every semaphore counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem (c, b) = V5 m (outs m) c b) ∧ r.2.sem = fun _ => 0) :=
  run_cond (Ix := Unit) (U := UR sig nD τ) (Lvl := ℕ) m (outs m) (emb₁) () Variants.none lvls lvl0 (fun g h => if_neg h) ρ (pdats m) (fun _ => 0) (fun _ => iprop(emp))
    (initOf (Pipeline.cells cfgs cellOf_inj) (Pipeline.launchToks cfgs cellOf_inj))
    (by
      rw [ownU_emb₁]
      iintro H
      imodintro
      isplitl [H]; · iexact H
      rw [show (Finset.univ : Finset (Dev nD)) = {0} from by decide, bigSep_singleton]
      iempintro)
    (fun _ => rest) (hE0 ρ) (fun c => by iintro ⟨Ho, _⟩; iexact Ho) (R0 m) (hpre0 m) (hpost0 m) (R1 m) (hpre1 m) (hpost1 m)

theorem mem_uc (r : Ref sig .tc) (h : r.isScoped = false) : Proc.devRef (τ := τ) .tc r ∈ Pipeline.ucRefs τ sig :=
  Finset.mem_filter.mpr ⟨StableHlo.devRef_mem_tcRefs r, fun h' => Bool.false_ne_true (h.symm.trans h')⟩

/-- The arguments end as launched, and every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ ⟨m, fun _ => 0, ρ⟩).mono (fun r h => ⟨fun c =>
    ⟨(h.1 c _ (mem_uc main_arg0 rfl)).trans (V5_main_arg0 m _ c), (h.1 c _ (mem_uc main_arg1 rfl)).trans (V5_main_arg1 m _ c),
     (h.1 c _ (mem_uc main_arg2 rfl)).trans (V5_main_arg2 m _ c), (h.1 c _ (mem_uc main_arg3 rfl)).trans (V5_main_arg3 m _ c),
     (h.1 c _ (mem_uc main_arg4 rfl)).trans (V5_main_arg4 m _ c), (h.1 c _ (mem_uc main_arg5 rfl)).trans (V5_main_arg5 m _ c)⟩, h.2⟩) (run_main m ρ)

end Cert.Kernel.Run

end
-- ==== Proof.KernelIdeal.StatsRuns.lean ====
/- The first call (the middle of each channel's range): what its three cases of the grid are stated over — its
   windows' blocks, its branch conditions in closed form, where its output is left alone, its buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Stats

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_2, k0_cond3, e0]
    word_cmp
   : ∀ t : Fin grid0.N, cond0_2 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1536 .f32 := (Memref.whole cc0_stg1_0 : Memref sig .tc .vmem S1x1536 .f32).view
/-- Each window's current staging memref at point `t`, spelled as the pipeline passes it (`bodyAt0`), and its wholeness. -/
abbrev ms0_0 (t : Fin cfg0.N) : Memref sig .tc .vmem S1024x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x1536 .bf16 := Memref.whole cc0_scratch0
abbrev scM0_1 : Memref sig .tc .vmem S16x1536 .bf16 := Memref.whole cc0_scratch1
/-- The scratch `arg3` the kernel carries between points, as a view: what it holds is stated through it. -/
abbrev VS0_0 : View sig .tc .vmem S16x1536 .bf16 := scM0_0.view
/-- The scratch `arg4` the kernel carries between points, as a view: what it holds is stated through it. -/
abbrev VS0_1 : View sig .tc .vmem S16x1536 .bf16 := scM0_1.view

/-- What rides along untouched: the second call's buffers at some contents, and the generator's register. -/
def keep (c : Dev nD) : sProp 𝕄 :=
  iprop(((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_stg0_0), ((c : Thread nD τ).loc cc1_stg0_0) ↦{fullShare} f)) ∗ (∃ r, prngReg c r))

/-- The buffers no window stages, with the two running arrays as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ keep c) := by
  unfold Pipeline.ΦA keep; rw [scopedRest0_eq]; simp only [scM0_0, scM0_1, owns_whole]
  have assoc : ∀ P Q R : sProp 𝕄, iprop((P ∗ Q) ∗ R) = iprop(P ∗ Q ∗ R) := fun _ _ _ => Idealize.SL.BI.Entails.antisymm Idealize.SL.BI.sep_assoc Idealize.SL.BI.sep_assoc'
  simp only [assoc]; rfl

end Cert.KernelIdeal.Stats

end
-- ==== Proof.KernelIdeal.StatsRun.lean ====
/- The first call's body run on any buffers, in each of its three cases: the first point sets the two running arrays,
   the points between combine the block into them, the last one also writes the middle of the range. -/
module

public import proofs.«01_k».proof.Proof.KernelIdeal.StatsRuns

@[expose] public section

set_option maxRecDepth 16384

noncomputable section

namespace Cert.KernelIdeal.Stats

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) :
    Σ' (L1 : List (View.Piece (Elt F) S1x1536 .f32)), Σ' (LS0 : List (View.Piece (Elt F) S16x1536 .bf16)), { LS1 : List (View.Piece (Elt F) S16x1536 .bf16) //
      ∀ (xi1 : Vec F S1x1536 .f32) (E : Set ℕ) (K : PUnit → sProp 𝕄),
        iprop(owns (c : Thread nD τ) arg1 fullShare x0 ∗ owns (c : Thread nD τ) arg2 fullShare xi1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0_channel_midrange i arg1 harg1 arg2 harg2 arg3 harg3 arg4 harg4) K } := by
  refine ⟨[], ?_, ?_, fun xi1 E K => ?run⟩
  case run =>
    simp only [cc0_channel_midrange_eq_skeleton]; unfold cc0_channel_midrange_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 14: 14 of 16), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) :
    Σ' (L1 : List (View.Piece (Elt F) S1x1536 .f32)), Σ' (LS0 : List (View.Piece (Elt F) S16x1536 .bf16)), { LS1 : List (View.Piece (Elt F) S16x1536 .bf16) //
      ∀ (xi1 : Vec F S1x1536 .f32) (E : Set ℕ) (K : PUnit → sProp 𝕄),
        iprop(owns (c : Thread nD τ) arg1 fullShare x0 ∗ owns (c : Thread nD τ) arg2 fullShare xi1 ∗ owns (c : Thread nD τ) arg3 fullShare xs0 ∗ owns (c : Thread nD τ) arg4 fullShare xs1
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0_channel_midrange i arg1 harg1 arg2 harg2 arg3 harg3 arg4 harg4) K } := by
  refine ⟨[], ?_, ?_, fun xi1 E K => ?run⟩
  case run =>
    simp only [cc0_channel_midrange_eq_skeleton]; unfold cc0_channel_midrange_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1; obtain rfl := harg3.eq_unread hfs0; obtain rfl := harg4.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) :
    Σ' (L1 : List (View.Piece (Elt F) S1x1536 .f32)), Σ' (LS0 : List (View.Piece (Elt F) S16x1536 .bf16)), { LS1 : List (View.Piece (Elt F) S16x1536 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0 ∗ owns (c : Thread nD τ) arg4 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0_channel_midrange i arg1 harg1 arg2 harg2 arg3 harg3 arg4 harg4) K } := by
  refine ⟨?_, ?_, ?_, fun E K => ?run⟩
  case run =>
    simp only [cc0_channel_midrange_eq_skeleton]; unfold cc0_channel_midrange_skel
    simp only [k0_part1_eq_skeleton, k0_part2_eq_skeleton, k0_part3_eq_skeleton, k0_part4_eq_skeleton, k0_part5_eq_skeleton]
    unfold owns
    iintro ⟨⟨%f0, %hf0, H0⟩, ⟨%d1, %f1, -, H1⟩, ⟨%fs0, %hfs0, HS0⟩, ⟨%fs1, %hfs1, HS1⟩, Hk⟩
    obtain rfl := harg1.eq_unread hf0; obtain rfl := harg3.eq_unread hfs0; obtain rfl := harg4.eq_unread hfs1
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [HS0]; · iexists _; iexact HS0
    iexists _; iexact HS1

end Cert.KernelIdeal.Stats

end
-- ==== Proof.KernelIdeal.Stats.lean ====
/- The first call as a region: what its buffers hold point by point, the proof data, and its body's obligation. -/
module

public import proofs.«01_k».proof.Proof.KernelIdeal.StatsRun

@[expose] public section

set_option maxRecDepth 16384

noncomputable section

namespace Cert.KernelIdeal.Stats

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) : Vec F S1x1536 .f32 :=
  VO0_1.read (Elt F) (VO0_1.writes (Elt F) VO0_1.junk (kernelRun0_A c i arg1 harg1 arg2 harg2 arg3 harg3 arg4 harg4 hc0 hc1 hc2 x0).1)

/-- Case A's pieces for scratch `arg3`, which the kernel carries between points, cover it: 1 piece of `S16x1536` tiling it (Lib/Ring.lean `Piece.tiledL`). -/
theorem scover0_A_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) (y : S16x1536.Idx) :
    ∃ pc ∈ (kernelRun0_A c i arg1 harg1 arg2 harg2 arg3 harg3 arg4 harg4 hc0 hc1 hc2 x0).2.1, y ∈ pc.1.set :=
  View.cover_of_tiledL (kernelRun0_A c i arg1 harg1 arg2 harg2 arg3 harg3 arg4 harg4 hc0 hc1 hc2 x0).2.1 S16x1536.size (by sl_kernel_rfl) y

/-- What case A leaves in scratch `arg3`: its pieces read back over junk. -/
def sout0_A_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) : Vec F S16x1536 .bf16 :=
  VS0_0.read (Elt F) (VS0_0.writes (Elt F) VS0_0.junk (kernelRun0_A c i arg1 harg1 arg2 harg2 arg3 harg3 arg4 harg4 hc0 hc1 hc2 x0).2.1)

/-- Case A's pieces for scratch `arg4`, which the kernel carries between points, cover it: 1 piece of `S16x1536` tiling it (Lib/Ring.lean `Piece.tiledL`). -/
theorem scover0_A_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) (y : S16x1536.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S16x1536.size (by sl_kernel_rfl) y

/-- What case A leaves in scratch `arg4`: its pieces read back over junk. -/
def sout0_A_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : cond0_0 i) (hc1 : ¬cond0_1 i) (hc2 : ¬cond0_2 i)
    (x0 : Vec F S1024x1536 .bf16) : Vec F S16x1536 .bf16 :=
  VS0_1.read (Elt F) (VS0_1.writes (Elt F) VS0_1.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) : Vec F S1x1536 .f32 :=
  VO0_1.read (Elt F) (VO0_1.writes (Elt F) VO0_1.junk (kernelRun0_B c i arg1 harg1 arg2 harg2 arg3 harg3 arg4 harg4 hc0 hc1 hc2 x0 xs0 xs1).1)

/-- Case B's pieces for scratch `arg3`, which the kernel carries between points, cover it: 1 piece of `S16x1536` tiling it (Lib/Ring.lean `Piece.tiledL`). -/
theorem scover0_B_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) (y : S16x1536.Idx) :
    ∃ pc ∈ (kernelRun0_B c i arg1 harg1 arg2 harg2 arg3 harg3 arg4 harg4 hc0 hc1 hc2 x0 xs0 xs1).2.1, y ∈ pc.1.set :=
  View.cover_of_tiledL (kernelRun0_B c i arg1 harg1 arg2 harg2 arg3 harg3 arg4 harg4 hc0 hc1 hc2 x0 xs0 xs1).2.1 S16x1536.size (by sl_kernel_rfl) y

/-- What case B leaves in scratch `arg3`: its pieces read back over junk. -/
def sout0_B_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) : Vec F S16x1536 .bf16 :=
  VS0_0.read (Elt F) (VS0_0.writes (Elt F) VS0_0.junk (kernelRun0_B c i arg1 harg1 arg2 harg2 arg3 harg3 arg4 harg4 hc0 hc1 hc2 x0 xs0 xs1).2.1)

/-- Case B's pieces for scratch `arg4`, which the kernel carries between points, cover it: 1 piece of `S16x1536` tiling it (Lib/Ring.lean `Piece.tiledL`). -/
theorem scover0_B_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) (y : S16x1536.Idx) :
    ∃ pc ∈ (kernelRun0_B c i arg1 harg1 arg2 harg2 arg3 harg3 arg4 harg4 hc0 hc1 hc2 x0 xs0 xs1).2.2.1, y ∈ pc.1.set :=
  View.cover_of_tiledL (kernelRun0_B c i arg1 harg1 arg2 harg2 arg3 harg3 arg4 harg4 hc0 hc1 hc2 x0 xs0 xs1).2.2.1 S16x1536.size (by sl_kernel_rfl) y

/-- What case B leaves in scratch `arg4`: its pieces read back over junk. -/
def sout0_B_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : ¬cond0_2 i)
    (x0 : Vec F S1024x1536 .bf16) (xs0 : Vec F S16x1536 .bf16) (xs1 : Vec F S16x1536 .bf16) : Vec F S16x1536 .bf16 :=
  VS0_1.read (Elt F) (VS0_1.writes (Elt F) VS0_1.junk (kernelRun0_B c i arg1 harg1 arg2 harg2 arg3 harg3 arg4 harg4 hc0 hc1 hc2 x0 xs0 xs1).2.2.1)

/-- Case C's pieces for output 1 tile its block (1 store of `S1x1536`, checked by the kernel's evaluation: Lib/Ring.lean `Piece.tiledL`, linear in the pieces, through a loop's `@[irreducible]` trip theorem too), so they cover it. -/
theorem cover0_C_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) (y : S1x1536.Idx) :
    ∃ pc ∈ (kernelRun0_C c i arg1 harg1 arg2 harg2 arg3 harg3 arg4 harg4 hc0 hc1 hc2 x0 xs0 xs1).1, y ∈ pc.1.set :=
  View.cover_of_tiledL (kernelRun0_C c i arg1 harg1 arg2 harg2 arg3 harg3 arg4 harg4 hc0 hc1 hc2 x0 xs0 xs1).1 S1x1536.size (by sl_kernel_rfl) y

/-- What case C leaves in output 1's staging buffer: its pieces read back over junk. -/
def out0_C_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) : Vec F S1x1536 .f32 :=
  VO0_1.read (Elt F) (VO0_1.writes (Elt F) VO0_1.junk (kernelRun0_C c i arg1 harg1 arg2 harg2 arg3 harg3 arg4 harg4 hc0 hc1 hc2 x0 xs0 xs1).1)

/-- Case C's pieces for scratch `arg3`, which the kernel carries between points, cover it: 1 piece of `S16x1536` tiling it (Lib/Ring.lean `Piece.tiledL`). -/
theorem scover0_C_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) (y : S16x1536.Idx) :
    ∃ pc ∈ (kernelRun0_C c i arg1 harg1 arg2 harg2 arg3 harg3 arg4 harg4 hc0 hc1 hc2 x0 xs0 xs1).2.1, y ∈ pc.1.set :=
  View.cover_of_tiledL (kernelRun0_C c i arg1 harg1 arg2 harg2 arg3 harg3 arg4 harg4 hc0 hc1 hc2 x0 xs0 xs1).2.1 S16x1536.size (by sl_kernel_rfl) y

/-- What case C leaves in scratch `arg3`: its pieces read back over junk. -/
def sout0_C_0 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) : Vec F S16x1536 .bf16 :=
  VS0_0.read (Elt F) (VS0_0.writes (Elt F) VS0_0.junk (kernelRun0_C c i arg1 harg1 arg2 harg2 arg3 harg3 arg4 harg4 hc0 hc1 hc2 x0 xs0 xs1).2.1)

/-- Case C's pieces for scratch `arg4`, which the kernel carries between points, cover it: 1 piece of `S16x1536` tiling it (Lib/Ring.lean `Piece.tiledL`). -/
theorem scover0_C_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) (y : S16x1536.Idx) :
    ∃ pc ∈ (kernelRun0_C c i arg1 harg1 arg2 harg2 arg3 harg3 arg4 harg4 hc0 hc1 hc2 x0 xs0 xs1).2.2.1, y ∈ pc.1.set :=
  View.cover_of_tiledL (kernelRun0_C c i arg1 harg1 arg2 harg2 arg3 harg3 arg4 harg4 hc0 hc1 hc2 x0 xs0 xs1).2.2.1 S16x1536.size (by sl_kernel_rfl) y

/-- What case C leaves in scratch `arg4`: its pieces read back over junk. -/
def sout0_C_1 (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S16x1536 .bf16) (harg3 : arg3.IsWhole) (arg4 : Memref sig .tc .vmem S16x1536 .bf16) (harg4 : arg4.IsWhole) (hc0 : ¬cond0_0 i) (hc1 : cond0_1 i) (hc2 : cond0_2 i)
    (x0 : Vec F S1024x1536 .bf16) (xs0 : Vec F S16x1536 .bf16) (xs1 : Vec F S16x1536 .bf16) : Vec F S16x1536 .bf16 :=
  VS0_1.read (Elt F) (VS0_1.writes (Elt F) VS0_1.junk (kernelRun0_C c i arg1 harg1 arg2 harg2 arg3 harg3 arg4 harg4 hc0 hc1 hc2 x0 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1536 .f32 × Vec F S16x1536 .bf16 × Vec F S16x1536 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩), sout0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩))
  | n + 1, hn =>
    if h0 : (n + 1) % 16 = 0 then
      if h1 : 1 ≤ (n + 1) then
        False.elim (by have hN : n + 1 < 16 := lt_of_lt_of_eq hn (show cfg0.N = 16 from N_0); omega)
      else
        if h2 : (n + 1) % 16 = 15 then
          False.elim (by have hN : n + 1 < 16 := lt_of_lt_of_eq hn (show cfg0.N = 16 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩))
    else
      if h1 : 1 ≤ (n + 1) then
        if h2 : (n + 1) % 16 = 15 then
          (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (outsAt0 c n (Nat.lt_of_succ_lt hn)).2.1 (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (outsAt0 c n (Nat.lt_of_succ_lt hn)).2.1 (outsAt0 c n (Nat.lt_of_succ_lt hn)).2.2)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬1 ≤ t.val) (h2 : ¬t.val % 16 = 15) :
    outsAt0 V c t.val t.isLt = (out0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (fun h => h2 ((hcond0_2 t).mp h)) (iblk V c 0 t), sout0_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (fun h => h2 ((hcond0_2 t).mp h)) (iblk V c 0 t), sout0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (fun h => h2 ((hcond0_2 t).mp h)) (iblk V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 16 = 0) (h1 : 1 ≤ t.val) (h2 : ¬t.val % 16 = 15) :
    outsAt0 V c t.val t.isLt = (out0_B_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (fun h => h2 ((hcond0_2 t).mp h)) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (fun h => h2 ((hcond0_2 t).mp h)) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (fun h => h2 ((hcond0_2 t).mp h)) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 16 = 0) (h1 : 1 ≤ t.val) (h2 : t.val % 16 = 15) :
    outsAt0 V c t.val t.isLt = (out0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) ((hcond0_2 t).mpr h2) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) ((hcond0_2 t).mpr h2) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) ((hcond0_2 t).mpr h2) (iblk V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2)) ∗ keep c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2)) ∗ keep c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2)) ∗ keep c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  by_cases h0 : t.val % 16 = 0
  · by_cases h1 : 1 ≤ t.val
    · exfalso; omega
    · by_cases h2 : t.val % 16 = 15
      · exfalso; omega
      · rw [show (dat V c).leavesExact 0 t = owns (c : Thread nD τ) (ms0_0 t) fullShare ((dat V c).after 0 t) from by
      unfold Dat.leavesExact; rw [liveAt0_0 t], after0_0]
        rw [Dat.leavesExact_idle (dat V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0 sout0_A_1; (try dsimp only)
          iintro ⟨⟨⟨HS0, HS1⟩, Hg⟩, Ho, ⟨%d0, H0⟩, ⟨%d1, H1⟩⟩
          iapply ((kernelRun0_A c (grid0.coords t) _ _ _ _ _ _ _ _ ((hcond0_0 t).mpr h0) (fun h => h1 ((hcond0_1 t).mp h)) (fun h => h2 ((hcond0_2 t).mp h)) (iblk V c 0 t)).2.2.2 _ Set.univ _)
          isplitl [H0]; · iexact H0
          isplitl [H1]; · iexact H1
          isplitl [HS0]; · iexact HS0
          isplitl [HS1]; · iexact HS1
          iintro ⟨H0, H1, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _)
              unfold owns; iexists _; isplitr
              swap; · iexact HS1
              ipureintro; exact View.read_writes_of_cover _ _ _ _ _ (scover0_A_1 c _ _ _ _ _ _ _ _ _ _ _ _ _)
            iexact Hg
          isplitl [Ho]; · iexact Ho
          isplitl [H0]; · iexact H0
          iexists _; iexact H1
        · exfalso; have hN : t.val < 16 := lt_of_lt_of_eq t.isLt (show cfg0.N = 16 from N_0); omega
  · by_cases h1 : 1 ≤ t.val
    · by_cases h2 : t.val % 16 = 15
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1_C t (fun h => h0 ((hcond0_0 t).mp h)) ((hcond0_1 t).mpr h1) ((hcond0_2 t).mpr h2)], after0_1]
        by_cases hz : t.val = 0
        · exfalso; have hN : t.val < 16 := lt_of_lt_of_eq t.isLt (show cfg0.N = 16 from N_0); omega
        · rw [PhiS_castSucc V c t, PhiS_pos V c _ _ hz]
          rw [outsAt0_C V c t h0 h1 h2]
          unfold out0_C_1 sout0_C_0 sout0_C_1; (try dsimp only)
          iintro ⟨⟨⟨HS0, HS1⟩, Hg⟩, Ho, ⟨%d0, H0⟩, ⟨%d1, H1⟩⟩
          iapply ((kernelRun0_C c (grid0.coords t) _ _ _ _ _ _ _ _ (fun h => h0 ((hcond0_0 t).mp h)) ((hcond0_1 t).mpr h1) ((hcond0_2 t).mpr h2) (iblk V c 0 t) _ _).2.2.2 Set.univ _)
          isplitl [H0]; · iexact H0
          isplitl [H1]; · iexists _; iexact H1
          isplitl [HS0]; · iexact HS0
          isplitl [HS1]; · iexact HS1
          iintro ⟨H0, ⟨%e1, H1⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _)
            iexact Hg
          isplitl [Ho]; · iexact Ho
          isplitl [H0]; · iexact H0
          unfold owns; iexists _; isplitr
          swap; · iexact H1
          ipureintro; exact View.read_writes_of_cover _ _ _ _ _ (cover0_C_1 c _ _ _ _ _ _ _ _ _ _ _ _ _ _ _)
      · rw [show (dat V c).leavesExact 0 t = owns (c : Thread nD τ) (ms0_0 t) fullShare ((dat V c).after 0 t) from by
      unfold Dat.leavesExact; rw [liveAt0_0 t], after0_0]
        rw [Dat.leavesExact_idle (dat V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        by_cases hz : t.val = 0
        · exfalso; have hN : t.val < 16 := lt_of_lt_of_eq t.isLt (show cfg0.N = 16 from N_0); omega
        · rw [PhiS_castSucc V c t, PhiS_pos V c _ _ hz]
          rw [outsAt0_B V c t h0 h1 h2]
          unfold sout0_B_0 sout0_B_1; (try dsimp only)
          iintro ⟨⟨⟨HS0, HS1⟩, Hg⟩, Ho, ⟨%d0, H0⟩, ⟨%d1, H1⟩⟩
          iapply ((kernelRun0_B c (grid0.coords t) _ _ _ _ _ _ _ _ (fun h => h0 ((hcond0_0 t).mp h)) ((hcond0_1 t).mpr h1) (fun h => h2 ((hcond0_2 t).mp h)) (iblk V c 0 t) _ _).2.2.2 _ Set.univ _)
          isplitl [H0]; · iexact H0
          isplitl [H1]; · iexact H1
          isplitl [HS0]; · iexact HS0
          isplitl [HS1]; · iexact HS1
          iintro ⟨H0, H1, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _)
            iexact Hg
          isplitl [Ho]; · iexact Ho
          isplitl [H0]; · iexact H0
          iexists _; iexact H1
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dat V c).Φ (Fin.last cfg0.N) ⊢ Pipeline.ΦA spec0 c :=
  Phi_out V c _ (by rw [Fin.val_last]; have : cfg0.N = 16 := N_0; omega)

end Cert.KernelIdeal.Stats

end
-- ==== Proof.KernelIdeal.MainRuns.lean ====
/- The second call (the quantised product): what its two cases of the grid are stated over — its windows' blocks,
   its branch condition in closed form, its buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer likewise. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer likewise. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer likewise. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer likewise. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 64 = 0 :=
  (fun t => by
    have ht : t.val < 64 := Nat.lt_of_lt_of_eq t.isLt N_1
    have e0 : (grid1.coords t 0).val = t.val / 1 % 64 := Pipeline.Grid.coords_val t 0 (by decide) rfl
    simp only [cond1_0, k1_cond1, e0]
    word_cmp
   : ∀ t : Fin grid1.N, cond1_0 (grid1.coords t) ↔ t.val % 64 = 0)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-! ## The kernel body on any staging memrefs: a subtype the run finds -/

/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1536 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1536 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1536 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1536x8960 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S12x8960 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8960 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x8960 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x8960 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x1536 .i8 := win1_9.stage (cfg1.slots t 9)
abbrev hs1_9 (t : Fin cfg1.N) : (ms1_9 t).IsWhole := hstage1_9 ((cfg1.slots t 9).cast nbuf1_9)
/-- The scratch operands: whole scoped buffers of the kernel's own, passed beside the windows. -/
abbrev scM1_0 : Memref sig .tc .vmem S1536x8960 .bf16 := Memref.whole cc1_scratch0

/-- The carried weights as a view: what they are is stated through it. -/
abbrev VS1_0 : View sig .tc .vmem S1536x8960 .bf16 := scM1_0.view
/-- One staging buffer of each output, through which its contents are stated. -/
abbrev VO1_7 : View sig .tc .vmem S256x8960 .bf16 := (Memref.whole cc1_stg7_0 : Memref sig .tc .vmem S256x8960 .bf16).view
abbrev VO1_8 : View sig .tc .vmem S1x8960 .f32 := (Memref.whole cc1_stg8_0 : Memref sig .tc .vmem S1x8960 .f32).view
abbrev VO1_9 : View sig .tc .vmem S256x1536 .i8 := (Memref.whole cc1_stg9_0 : Memref sig .tc .vmem S256x1536 .i8).view

/-- What rides along untouched: the first call's buffers at some contents, and the generator's register. -/
def keep (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ (∃ r, prngReg c r))

/-- The buffers no window stages, with the carried weights as a memref owned at some contents. -/
theorem PhiA1_eq (c : Dev nD) :
    (Pipeline.ΦA spec1 c : sProp 𝕄)
      = iprop((∃ d, owns (c : Thread nD τ) scM1_0 fullShare d) ∗ keep c) := by
  unfold Pipeline.ΦA keep; rw [scopedRest1_eq]; simp only [scM1_0, owns_whole]
  have assoc : ∀ P Q R : sProp 𝕄, iprop((P ∗ Q) ∗ R) = iprop(P ∗ Q ∗ R) := fun _ _ _ => Idealize.SL.BI.Entails.antisymm Idealize.SL.BI.sep_assoc Idealize.SL.BI.sep_assoc'
  have comm : ∀ P Q : sProp 𝕄, iprop(P ∗ Q) = iprop(Q ∗ P) := fun _ _ => Idealize.SL.BI.Entails.antisymm Idealize.SL.BI.sep_comm Idealize.SL.BI.sep_comm
  have key : ∀ P0 P1 P2 P3 P4 H g : sProp 𝕄, iprop((P0 ∗ P1 ∗ P2 ∗ P3 ∗ P4 ∗ H) ∗ g) = iprop(H ∗ (P0 ∗ P1 ∗ P2 ∗ P3 ∗ P4) ∗ g) := by
    intro P0 P1 P2 P3 P4 H g; rw [comm H]; simp only [assoc]; rw [comm g H]
  exact key _ _ _ _ _ _ _

end Cert.KernelIdeal.Main

end
-- ==== Proof.KernelIdeal.MainRun.lean ====
/- The second call's body run on any buffers, in each of its two cases. -/
module

public import proofs.«01_k».proof.Proof.KernelIdeal.MainRuns

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's term is large: checking it walks past the default budget
set_option maxHeartbeats 4000000 in
/-- The first point: the weights are scaled and kept, the correction and this point's outputs are stored. The pieces each
    buffer ends with are what running the body finds. -/
noncomputable def kernelRun1_A (c : Dev nD) (i : grid1.Coords) (arg1 : Memref sig .tc .smem S1 .f32) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S1536x8960 .i8) (harg5 : arg5.IsWhole) (arg6 : Memref sig .tc .vmem S12x8960 .f32) (harg6 : arg6.IsWhole) (arg7 : Memref sig .tc .vmem S1x8960 .f32) (harg7 : arg7.IsWhole) (arg8 : Memref sig .tc .vmem S256x8960 .bf16) (harg8 : arg8.IsWhole) (arg9 : Memref sig .tc .vmem S1x8960 .f32) (harg9 : arg9.IsWhole) (arg10 : Memref sig .tc .vmem S256x1536 .i8) (harg10 : arg10.IsWhole) (arg11 : Memref sig .tc .vmem S1536x8960 .bf16) (harg11 : arg11.IsWhole) (hc0 : cond1_0 i)
    (x0 : Vec F S1 .f32) (x1 : Vec F S256x1536 .bf16) (x2 : Vec F S1x1536 .f32) (x3 : Vec F S1x1536 .f32) (x4 : Vec F S1536x8960 .i8) (x5 : Vec F S12x8960 .f32) (x6 : Vec F S1x8960 .f32) :
    Σ' (L7 : List (View.Piece (Elt F) S256x8960 .bf16)), Σ' (L8 : List (View.Piece (Elt F) S1x8960 .f32)), Σ' (L9 : List (View.Piece (Elt F) S256x1536 .i8)), { LS0 : List (View.Piece (Elt F) S1536x8960 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc1_quant_linear i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_quant_linear_eq_skeleton]; unfold cc1_quant_linear_skel
    simp only [k1_part25_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS0

-- the run's term is large: checking it walks past the default budget
set_option maxHeartbeats 2000000 in
/-- Every later point: the kept weights and the correction are read and left as they are. -/
noncomputable def kernelRun1_B (c : Dev nD) (i : grid1.Coords) (arg1 : Memref sig .tc .smem S1 .f32) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S1536x8960 .i8) (harg5 : arg5.IsWhole) (arg6 : Memref sig .tc .vmem S12x8960 .f32) (harg6 : arg6.IsWhole) (arg7 : Memref sig .tc .vmem S1x8960 .f32) (harg7 : arg7.IsWhole) (arg8 : Memref sig .tc .vmem S256x8960 .bf16) (harg8 : arg8.IsWhole) (arg9 : Memref sig .tc .vmem S1x8960 .f32) (harg9 : arg9.IsWhole) (arg10 : Memref sig .tc .vmem S256x1536 .i8) (harg10 : arg10.IsWhole) (arg11 : Memref sig .tc .vmem S1536x8960 .bf16) (harg11 : arg11.IsWhole) (hc0 : ¬cond1_0 i)
    (x0 : Vec F S1 .f32) (x1 : Vec F S256x1536 .bf16) (x2 : Vec F S1x1536 .f32) (x3 : Vec F S1x1536 .f32) (x4 : Vec F S1536x8960 .i8) (x5 : Vec F S12x8960 .f32) (x6 : Vec F S1x8960 .f32) (x8 : Vec F S1x8960 .f32) (xs0 : Vec F S1536x8960 .bf16) :
    Σ' (L7 : List (View.Piece (Elt F) S256x8960 .bf16)), { L9 : List (View.Piece (Elt F) S256x1536 .i8) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare x8 ∗ (∃ f, arg10.view.loc (c : Thread nD τ) ↦[arg10.view.set]{fullShare} arg10.view.writes (Elt F) f L9) ∗ owns (c : Thread nD τ) arg11 fullShare xs0) -∗ K ⟨⟩))
          ⊢ wp frame (wpE (defs₀ (F := F)) Variants.none c none) E (cc1_quant_linear i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_quant_linear_eq_skeleton]; unfold cc1_quant_linear_skel
    simp only [k1_part25_eq_skeleton, k1_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]; · iexists _; iexact H9
    iexists _; isplitr; · ipureintro; exact harg11.read_unread _
    iexact HS0

end Cert.KernelIdeal.Main

end
-- ==== Proof.KernelIdeal.Main.lean ====
/- The second call as a region: what its buffers hold point by point (the weights kept from the first point on, the
   correction, the product's rows and the codes), the proof data, and its body's obligation. -/
module

public import proofs.«01_k».proof.Proof.KernelIdeal.MainRun

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body leaves -/

/-- The body run at a first point: the pieces its outputs and the kept weights end with. -/
abbrev runA (c : Dev nD) (t : Fin cfg1.N) (h0 : t.val % 64 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (iblk V c 0 t) (iblk V c 1 t) (iblk V c 2 t) (iblk V c 3 t) (iblk V c 4 t) (iblk V c 5 t) (iblk V c 6 t)

/-- The grid's first point. -/
abbrev pt0 : Fin cfg1.N := ⟨0, by have : cfg1.N = 64 := N_1; omega⟩

/-- The kept weights: what the first point leaves in the carried buffer. -/
def wd (c : Dev nD) : Vec F S1536x8960 .bf16 := VS1_0.read (Elt F) (VS1_0.writes (Elt F) VS1_0.junk (runA V c pt0 (Nat.zero_mod _)).2.2.2.1)
/-- The correction: what the first point leaves in its output. -/
def corr (c : Dev nD) : Vec F S1x8960 .f32 := VO1_8.read (Elt F) (VO1_8.writes (Elt F) VO1_8.junk (runA V c pt0 (Nat.zero_mod _)).2.1)

/-- The body run at a later point, over the kept weights and the correction. -/
abbrev runB (c : Dev nD) (t : Fin cfg1.N) (h0 : ¬t.val % 64 = 0) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (corr V c) (wd V c)

/-- The pieces of the product's rows, and of the codes, that point `t` stores. -/
def yPieces (c : Dev nD) (t : Fin cfg1.N) : List (View.Piece (Elt F) S256x8960 .bf16) :=
  if h : t.val % 64 = 0 then (runA V c t h).1 else (runB V c t h).1
def qPieces (c : Dev nD) (t : Fin cfg1.N) : List (View.Piece (Elt F) S256x1536 .i8) :=
  if h : t.val % 64 = 0 then (runA V c t h).2.2.1 else (runB V c t h).2.1
/-- The product's rows, and the codes, that point `t` leaves. -/
def yAt (c : Dev nD) (t : Fin cfg1.N) : Vec F S256x8960 .bf16 := VO1_7.read (Elt F) (VO1_7.writes (Elt F) VO1_7.junk (yPieces V c t))
def qAt (c : Dev nD) (t : Fin cfg1.N) : Vec F S256x1536 .i8 := VO1_9.read (Elt F) (VO1_9.writes (Elt F) VO1_9.junk (qPieces V c t))

/-! Every point's pieces tile their buffers. -/

theorem coverA_7 (c : Dev nD) (t : Fin cfg1.N) (h0 : t.val % 64 = 0) (y : S256x8960.Idx) : ∃ pc ∈ (runA V c t h0).1, y ∈ pc.1.set :=
  View.cover_of_tiledL (runA V c t h0).1 ![256, 1280] (by sl_kernel_rfl) y
theorem coverA_8 (c : Dev nD) (t : Fin cfg1.N) (h0 : t.val % 64 = 0) (y : S1x8960.Idx) : ∃ pc ∈ (runA V c t h0).2.1, y ∈ pc.1.set :=
  View.cover_of_tiledL (runA V c t h0).2.1 ![1, 1280] (by sl_kernel_rfl) y
theorem coverA_9 (c : Dev nD) (t : Fin cfg1.N) (h0 : t.val % 64 = 0) (y : S256x1536.Idx) : ∃ pc ∈ (runA V c t h0).2.2.1, y ∈ pc.1.set :=
  View.cover_of_tiledL (runA V c t h0).2.2.1 S256x1536.size (by sl_kernel_rfl) y
theorem coverA_S (c : Dev nD) (t : Fin cfg1.N) (h0 : t.val % 64 = 0) (y : S1536x8960.Idx) : ∃ pc ∈ (runA V c t h0).2.2.2.1, y ∈ pc.1.set :=
  View.cover_of_tiledL (runA V c t h0).2.2.2.1 ![128, 1280] (by sl_kernel_rfl) y
theorem coverB_7 (c : Dev nD) (t : Fin cfg1.N) (h0 : ¬t.val % 64 = 0) (y : S256x8960.Idx) : ∃ pc ∈ (runB V c t h0).1, y ∈ pc.1.set :=
  View.cover_of_tiledL (runB V c t h0).1 ![256, 1280] (by sl_kernel_rfl) y
theorem coverB_9 (c : Dev nD) (t : Fin cfg1.N) (h0 : ¬t.val % 64 = 0) (y : S256x1536.Idx) : ∃ pc ∈ (runB V c t h0).2.1, y ∈ pc.1.set :=
  View.cover_of_tiledL (runB V c t h0).2.1 S256x1536.size (by sl_kernel_rfl) y

/-! ## The proof data -/

/-- What holds between points: before the first the buffers no window stages at anything; afterwards the kept weights. -/
def PhiS (c : Dev nD) : ℕ → sProp 𝕄
  | 0 => Pipeline.ΦA spec1 c
  | _ + 1 => iprop(owns (c : Thread nD τ) scM1_0 fullShare (wd V c) ∗ keep c)

theorem PhiS_pos (c : Dev nD) (n : ℕ) (h : n ≠ 0) : PhiS V c n = iprop(owns (c : Thread nD τ) scM1_0 fullShare (wd V c) ∗ keep c) := by
  cases n with
  | zero => exact absurd rfl h
  | succ n => rfl

/-- The proof data: the arrays as the region finds them; after the body each input's buffer at its block, the outputs at
    what the points leave; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => yAt V c t
    | ⟨8, _⟩ => corr V c
    | ⟨9, _⟩ => qAt V c t
  Φ t := PhiS V c t.val
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = yAt V c t := by dsimp only [dat]
theorem after1_8 (c : Dev nD) (t : Fin cfg1.N) : (dat V c).after 8 t = corr V c := by dsimp only [dat]
theorem after1_9 (c : Dev nD) (t : Fin cfg1.N) : (dat V c).after 9 t = qAt V c t := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d

/-- The correction's window is left alone exactly where the weights are not made. -/
theorem idle1_8_A : ∀ t : Fin cfg1.N, t.val % 64 = 0 → cfg1.idle 8 (grid1.coords t) = false := by decide +kernel
theorem idle1_8_B : ∀ t : Fin cfg1.N, ¬t.val % 64 = 0 → cfg1.idle 8 (grid1.coords t) = true := by decide +kernel

/-- After the first point the correction's buffer holds the correction. -/
theorem before1_8 (c : Dev nD) : ∀ (n : ℕ) (hn : n < cfg1.N) (d), n ≠ 0 → (dat V c).before 8 ⟨n, hn⟩ d = corr V c := by
  intro n
  have hN : cfg1.N = 64 := N_1
  induction n with
  | zero => intro _ _ h; exact absurd rfl h
  | succ n ih =>
    intro hn d _
    have hn' : n < cfg1.N := by omega
    rw [Dat.before_of_pos (dat V c) 8 ⟨n + 1, hn⟩ (Nat.succ_ne_zero n) ((cfg1.win 8).fetch_out rfl _) d,
      if_neg (fun h => by
        have e := (flush1_8 ⟨n, hn'⟩).mp h
        simp only at e; omega)]
    show (dat V c).left 8 ⟨n, hn'⟩ d = _
    unfold Dat.left
    by_cases hz : n = 0
    · subst hz
      rw [idle1_8_A ⟨0, hn'⟩ (Nat.zero_mod _)]
      show (dat V c).kept 8 ⟨0, hn'⟩ d = _
      unfold Dat.kept
      rw [Pipeline.fill_of_clip_none 8 _ (fun _ => rfl) d ((dat V c).after 8 ⟨0, hn'⟩), Pipeline.Window.fill_cut, after1_8]
    · rw [idle1_8_B ⟨n, hn'⟩ (by simp only; omega)]
      exact ih hn' d hz

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

theorem leaves1_0 (c : Dev nD) (t : Fin cfg1.N) : (dat V c).leavesExact 0 t = owns (c : Thread nD τ) (ms1_0 t) fullShare (iblk V c 0 t) := by
  unfold Dat.leavesExact; rw [liveAt1_0 t, after1_0]
theorem leaves1_1 (c : Dev nD) (t : Fin cfg1.N) : (dat V c).leavesExact 1 t = owns (c : Thread nD τ) (ms1_1 t) fullShare (iblk V c 1 t) := by
  unfold Dat.leavesExact; rw [liveAt1_1 t, after1_1]
theorem leaves1_2 (c : Dev nD) (t : Fin cfg1.N) : (dat V c).leavesExact 2 t = owns (c : Thread nD τ) (ms1_2 t) fullShare (iblk V c 2 t) := by
  unfold Dat.leavesExact; rw [liveAt1_2 t, after1_2]
theorem leaves1_3 (c : Dev nD) (t : Fin cfg1.N) : (dat V c).leavesExact 3 t = owns (c : Thread nD τ) (ms1_3 t) fullShare (iblk V c 3 t) := by
  unfold Dat.leavesExact; rw [liveAt1_3 t, after1_3]
theorem leaves1_4 (c : Dev nD) (t : Fin cfg1.N) : (dat V c).leavesExact 4 t = owns (c : Thread nD τ) (ms1_4 t) fullShare (iblk V c 4 t) := by
  unfold Dat.leavesExact; rw [liveAt1_4 t, after1_4]
theorem leaves1_5 (c : Dev nD) (t : Fin cfg1.N) : (dat V c).leavesExact 5 t = owns (c : Thread nD τ) (ms1_5 t) fullShare (iblk V c 5 t) := by
  unfold Dat.leavesExact; rw [liveAt1_5 t, after1_5]
theorem leaves1_6 (c : Dev nD) (t : Fin cfg1.N) : (dat V c).leavesExact 6 t = owns (c : Thread nD τ) (ms1_6 t) fullShare (iblk V c 6 t) := by
  unfold Dat.leavesExact; rw [liveAt1_6 t, after1_6]
theorem leaves1_7 (c : Dev nD) (t : Fin cfg1.N) : (dat V c).leavesExact 7 t = owns (c : Thread nD τ) (ms1_7 t) fullShare (yAt V c t) := by
  unfold Dat.leavesExact; rw [show cfg1.idle 7 (cfg1.grid.coords t) = false from rfl, after1_7]
theorem leaves1_9 (c : Dev nD) (t : Fin cfg1.N) : (dat V c).leavesExact 9 t = owns (c : Thread nD τ) (ms1_9 t) fullShare (qAt V c t) := by
  unfold Dat.leavesExact; rw [show cfg1.idle 9 (cfg1.grid.coords t) = false from rfl, after1_9]
/-- The correction's buffer is handed back holding the correction, at every point. -/
theorem leaves1_8_A (c : Dev nD) (t : Fin cfg1.N) (h0 : t.val % 64 = 0) : (dat V c).leavesExact 8 t = owns (c : Thread nD τ) (ms1_8 t) fullShare (corr V c) := by
  unfold Dat.leavesExact; rw [idle1_8_A t h0, after1_8]
theorem leaves1_8_B (c : Dev nD) (t : Fin cfg1.N) (h0 : ¬t.val % 64 = 0) :
    (owns (c : Thread nD τ) (ms1_8 t) fullShare (corr V c) : sProp 𝕄) ⊢ (dat V c).leavesExact 8 t := by
  unfold Dat.leavesExact; rw [idle1_8_B t h0]
  have hb : ∀ d, (dat V c).before 8 t d = corr V c := fun d => before1_8 V c t.val t.isLt d (fun h => h0 (by rw [h]))
  cases (cfg1.win 8).flush t
  · iintro H; iexists (corr V c); rw [hb]; iexact H
  · simp only [after1_8]; iintro H; iexact H

set_option maxHeartbeats 4800000 in
/-- The body at the first point. -/
theorem sound_bodyA (c : Dev nD) (t : Fin cfg1.N) (h0 : t.val % 64 = 0) :
    bodyPre V c t ⊢ wp frame (wpE (defs₀ (F := F)) Variants.none c none) Set.univ (bodyAt1 t) (fun _ => bodyPost V c t) := by
  obtain rfl : t = pt0 := Fin.ext (by have hN : cfg1.N = 64 := N_1; have := t.isLt; show t.val = 0; omega)
  unfold bodyPre bodyPost bodyAt1
  simp only [before1_0, before1_1, before1_2, before1_3, before1_4, before1_5, before1_6, leaves1_0, leaves1_1, leaves1_2, leaves1_3, leaves1_4, leaves1_5, leaves1_6, leaves1_7, leaves1_9]
  rw [leaves1_8_A V c pt0 h0]
  rw [show (dat V c).owesAt () (pt0 : Fin cfg1.N).succ = (dat V c).owesAt () (pt0 : Fin cfg1.N).castSucc from rfl]
  rw [show (dat V c).Φ (pt0 : Fin cfg1.N).succ = iprop(owns (c : Thread nD τ) scM1_0 fullShare (wd V c) ∗ keep c) from rfl,
    show (dat V c).Φ (pt0 : Fin cfg1.N).castSucc = Pipeline.ΦA spec1 c from rfl, PhiA1_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA V c pt0 h0).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  iintro ⟨H0, H1, H2, H3, H4, H5, H6, ⟨%e7, H7⟩, ⟨%e8, H8⟩, ⟨%e9, H9⟩, ⟨%es, HS0⟩⟩
  isplitl [HS0 Hg]
  · isplitl [HS0]
    · unfold owns; iexists _; isplitr
      swap; · iexact HS0
      ipureintro; exact View.read_writes_of_cover _ _ _ _ _ (coverA_S V c pt0 h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns yAt yPieces; rw [dif_pos h0]; iexists _; isplitr
    swap; · iexact H7
    ipureintro; exact View.read_writes_of_cover _ _ _ _ _ (coverA_7 V c pt0 h0)
  isplitl [H8]
  · unfold owns corr; iexists _; isplitr
    swap; · iexact H8
    ipureintro; exact View.read_writes_of_cover _ _ _ _ _ (coverA_8 V c pt0 h0)
  unfold owns qAt qPieces; rw [dif_pos h0]; iexists _; isplitr
  swap; · iexact H9
  ipureintro; exact View.read_writes_of_cover _ _ _ _ _ (coverA_9 V c pt0 h0)

set_option maxHeartbeats 4800000 in
/-- The body at a later point. -/
theorem sound_bodyB (c : Dev nD) (t : Fin cfg1.N) (h0 : ¬t.val % 64 = 0) :
    bodyPre V c t ⊢ wp frame (wpE (defs₀ (F := F)) Variants.none c none) Set.univ (bodyAt1 t) (fun _ => bodyPost V c t) := by
  have hz : t.val ≠ 0 := fun h => h0 (by rw [h])
  unfold bodyPre bodyPost bodyAt1
  simp only [before1_0, before1_1, before1_2, before1_3, before1_4, before1_5, before1_6, leaves1_0, leaves1_1, leaves1_2, leaves1_3, leaves1_4, leaves1_5, leaves1_6, leaves1_7, leaves1_9]
  simp only [show ∀ d, (dat V c).before 8 t d = corr V c from fun d => before1_8 V c t.val t.isLt d hz]
  rw [show (dat V c).owesAt () t.succ = (dat V c).owesAt () t.castSucc from rfl]
  rw [show (dat V c).Φ t.succ = iprop(owns (c : Thread nD τ) scM1_0 fullShare (wd V c) ∗ keep c) from rfl,
    show (dat V c).Φ t.castSucc = PhiS V c t.val from rfl, PhiS_pos V c t.val hz]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB V c t h0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [HS0]; · iexact HS0
  iintro ⟨H0, H1, H2, H3, H4, H5, H6, ⟨%e7, H7⟩, H8, ⟨%e9, H9⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns yAt yPieces; rw [dif_neg h0]; iexists _; isplitr
    swap; · iexact H7
    ipureintro; exact View.read_writes_of_cover _ _ _ _ _ (coverB_7 V c t h0)
  isplitl [H8]
  · iapply (leaves1_8_B V c t h0); iexact H8
  unfold owns qAt qPieces; rw [dif_neg h0]; iexists _; isplitr
  swap; · iexact H9
  ipureintro; exact View.read_writes_of_cover _ _ _ _ _ (coverB_9 V c t h0)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  by_cases h0 : t.val % 64 = 0
  · exact triple_restated (sound_bodyA V c t h0) rfl .rfl fun _ => .rfl
  · exact triple_restated (sound_bodyB V c t h0) rfl .rfl fun _ => .rfl

/-- What the launch hands the region is the invariant before the first point, -/
theorem hin (c : Dev nD) : Pipeline.ΦA spec1 c ⊢ (dat V c).Φ 0 := by
  rw [show (dat V c).Φ 0 = Pipeline.ΦA spec1 c from rfl]

/-- and after the last the kept weights' contents are forgotten. -/
theorem hout (c : Dev nD) : (dat V c).Φ (Fin.last cfg1.N) ⊢ Pipeline.ΦA spec1 c := by
  rw [show (dat V c).Φ (Fin.last cfg1.N) = PhiS V c cfg1.N from rfl, PhiS_pos V c _ (by have hN : cfg1.N = 64 := N_1; omega), PhiA1_eq]
  iintro ⟨HS0, Hg⟩
  isplitl [HS0]; · iexists _; iexact HS0
  iexact Hg

end Cert.KernelIdeal.Main

end
-- ==== Proof.KernelIdeal.Run.lean ====
/- The program's run: the two calls' records placed in @main, and what every unscoped buffer holds at the end. -/
module

public import proofs.«01_k».proof.Proof.Gen.KernelIdeal.Regions
public import proofs.«01_k».proof.Proof.KernelIdeal.Stats
public import proofs.«01_k».proof.Proof.KernelIdeal.Main
public import Idealize.ShloMosaic.Lib.Pipeline.RegionArraysS
public import Idealize.ShloMosaic.Lib.Pipeline.Kit

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! ## @main's run from the two records -/

section
variable (outs : Outs (F := F))

set_option backward.isDefEq.respectTransparency.types false in
/-- From one record per call, entered from the state before it and left at the state after it: every execution ends, with
    every unscoped buffer at the last valuation and every semaphore counter at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => (∀ c : Dev nD, ∀ b ∈ Pipeline.ucRefs τ sig, r.2.mem (c, b) = V5 m outs c b) ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => ∀ b ∈ Pipeline.ucRefs τ sig, s.mem (c, b) = V5 m outs c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact h
    · iexact HSI

end

/-! ## What the calls leave -/

local notation "𝕄" => MT nD τ sig Unit (Elt F) ℕ (UR sig nD τ) ℕ

/-- The unscoped buffers as the first call leaves them, -/
def left0 (c : Dev nD) : Valuation τ sig (Elt F) :=
  Pipeline.afterRegion (Stats.dat (fun c b => V1 m c (Proc.devRef .tc b)) c) (V1 m c)
/-- as contents by item, -/
def outs0 : Outs (F := F) := fun _ r c => left0 m c (Proc.devRef .tc r)
/-- and as the second call leaves them. -/
def left1 (c : Dev nD) : Valuation τ sig (Elt F) :=
  Pipeline.afterRegion (Main.dat (fun c b => V3 m (outs0 m) c (Proc.devRef .tc b)) c) (V3 m (outs0 m) c)
/-- What the two calls leave, by item. -/
def outs : Outs (F := F) := fun J r c => if J = 2 then left0 m c (Proc.devRef .tc r) else left1 m c (Proc.devRef .tc r)

theorem V2_outs (c : Dev nD) : V2 m (outs m) c = V2 m (outs0 m) c := rfl
theorem V3_outs (c : Dev nD) : V3 m (outs m) c = V3 m (outs0 m) c := rfl

/-- A held buffer is the name of a buffer of the core. -/
theorem exists_ref (b : DevRef τ sig) (hb : b ∈ Pipeline.ucRefs τ sig) : ∃ r : Ref sig .tc, b = Proc.devRef .tc r := by
  obtain ⟨r, -, e⟩ := Finset.mem_map.mp (Finset.mem_filter.mp hb).1
  exact ⟨r, e.symm⟩

theorem out_arr0 : ∀ w, (cfg0.win w).isOut = true → Pipeline.arrRef cfg0.spec w = main_v1 := by decide
theorem out_arr1 : ∀ w, (cfg1.win w).isOut = true →
    Pipeline.arrRef cfg1.spec w = main_v4_0 ∨ Pipeline.arrRef cfg1.spec w = main_v4_1 ∨ Pipeline.arrRef cfg1.spec w = main_v4_2 := by decide

theorem left0_eq (c : Dev nD) (b : DevRef τ sig) (hb : b ∈ Pipeline.ucRefs τ sig) : left0 m c b = V2 m (outs m) c b := by
  obtain ⟨r, rfl⟩ := exists_ref b hb
  by_cases h : r = main_v1
  · subst h
    exact (Function.update_self (Proc.devRef (τ := τ) .tc main_v1) _ (V1 m c)).symm
  · rw [show V2 m (outs m) c (Proc.devRef .tc r) = V1 m c (Proc.devRef .tc r) from V2_of m _ c r (by simpa using h)]
    refine Pipeline.afterRegion_keeps _ _ launch0.win.arr_inj (fun w => Stats.A_eq _ c w) r (fun w hw => ?_)
    by_contra hc
    exact h (hw.symm.trans (out_arr0 w (Bool.eq_true_of_not_eq_false hc)))

theorem left1_eq (c : Dev nD) (b : DevRef τ sig) (hb : b ∈ Pipeline.ucRefs τ sig) : left1 m c b = V4 m (outs m) c b := by
  obtain ⟨r, rfl⟩ := exists_ref b hb
  by_cases h : r ∈ ([main_v4_0, main_v4_1, main_v4_2] : List (Ref sig .tc))
  · have h2 : main_v4_0 ≠ main_v4_2 := by decide
    have h1 : main_v4_0 ≠ main_v4_1 := by decide
    have h3 : main_v4_1 ≠ main_v4_2 := by decide
    simp only [List.mem_cons, List.not_mem_nil, or_false] at h
    rcases h with rfl | rfl | rfl
    · simp only [V4, Function.update_self, Function.update_of_ne (StableHlo.devRef_ne_of_ne h2 : (Proc.devRef .tc main_v4_0 : DevRef τ sig) ≠ _),
        Function.update_of_ne (StableHlo.devRef_ne_of_ne h1 : (Proc.devRef .tc main_v4_0 : DevRef τ sig) ≠ _)]
      rfl
    · simp only [V4, Function.update_self, Function.update_of_ne (StableHlo.devRef_ne_of_ne h3 : (Proc.devRef .tc main_v4_1 : DevRef τ sig) ≠ _)]
      rfl
    · simp only [V4, Function.update_self]
      rfl
  · rw [show V4 m (outs m) c (Proc.devRef .tc r) = V3 m (outs m) c (Proc.devRef .tc r) from V4_of m _ c r h]
    refine Pipeline.afterRegion_keeps _ _ launch1.win.arr_inj (fun w => Main.A_eq _ c w) r (fun w hw => ?_)
    by_contra hc
    refine h ?_
    have e : r = main_v4_0 ∨ r = main_v4_1 ∨ r = main_v4_2 := hw ▸ out_arr1 w (Bool.eq_true_of_not_eq_false hc)
    simpa only [List.mem_cons, List.not_mem_nil, or_false] using e

/-! ## The records -/

/-- Both calls' proof data. -/
def pdats : (p : Fin 2) → (c : Dev nD) → Dat τ (Elt F) Unit ℕ (UR sig nD τ) ℕ (cfgs p) c
  | ⟨0, _⟩ => fun c => Stats.dat (fun c b => V1 m c (Proc.devRef .tc b)) c
  | ⟨1, _⟩ => fun c => Main.dat (fun c b => V3 m (outs0 m) c (Proc.devRef .tc b)) c

/-- The one level is assigned to every cell of a core. -/
abbrev lvls : GSem nD τ sig → Finset Unit := fun g => if g.1.2 = .tc then {()} else ∅
abbrev lvl0 : GSem nD τ sig → Unit → ℕ := fun _ _ => 0

/-- Between items the core owes nothing and keeps its generator register. -/
abbrev rest (c : Dev nD) : sProp 𝕄 :=
  iprop((∃ W, owes (c : Thread nD τ) (0 : CellTallies nD τ sig Unit) W) ∗ (∃ r, prngReg c r) ∗ emp)

theorem cut (p : Fin 2) : Pipeline.LevelCut (nD := nD) (pcfgs (F := F)) adm () lvls lvl0 p (fun _ => 0) (fun _ => 0) where
  hι _ _ _ := by
    show () ∈ (if _ then _ else _)
    rw [if_pos rfl]; exact Finset.mem_singleton_self _
  hιb _ _ _ := le_refl _
  hD _ _ _ h := absurd h (lt_irrefl _)

theorem share0 (c : Dev nD) (w) : (pdats m 0 c).share w = fullShare := by unfold Dat.share; split <;> rfl
theorem share1 (c : Dev nD) (w) : (pdats m 1 c).share w = fullShare := by unfold Dat.share; split <;> rfl
theorem arr0 (c : Dev nD) (w) : (pdats m 0 c).arrAt w 0 = V1 m c (Proc.devRef .tc (Pipeline.arrRef (Pipeline.pin (pcfgs (F := F)) adm 0).spec w)) :=
  Stats.A_eq (fun c b => V1 m c (Proc.devRef .tc b)) c w
theorem arr1 (c : Dev nD) (w) : (pdats m 1 c).arrAt w 0 = V3 m (outs0 m) c (Proc.devRef .tc (Pipeline.arrRef (Pipeline.pin (pcfgs (F := F)) adm 1).spec w)) :=
  Main.A_eq (fun c b => V3 m (outs0 m) c (Proc.devRef .tc b)) c w

set_option backward.isDefEq.respectTransparency.types false in
/-- The first call's record. -/
def R0 : RegionSeg (pcfgs (F := F)) adm (pdats m) () defs₀ Variants.none lvls lvl0 0 :=
  RegionSeg.ofHeldIn (pcfgs (F := F)) adm (pdats m) () defs₀ Variants.none lvls lvl0 0 (fun _ => 0) (Pipeline.ucRefs τ sig)
    (fun c => iprop(∃ r, prngReg c r)) (fun c => iprop(∃ r, prngReg c r)) launch0.toP rfl
    (fun c => (Stats.body_obligation (fun c b => V1 m c (Proc.devRef .tc b)) c).loose) (fun _ _ => rfl) (fun _ => rfl) (share0 m)
    (fun c => Stats.hin (fun c b => V1 m c (Proc.devRef .tc b)) c) (fun c => Stats.hout (fun c b => V1 m c (Proc.devRef .tc b)) c) (fun _ => 0) (cut 0) (fun _ => iprop(emp)) (V1 m) (arr0 m)

set_option backward.isDefEq.respectTransparency.types false in
/-- The second call's record. -/
def R1 : RegionSeg (pcfgs (F := F)) adm (pdats m) () defs₀ Variants.none lvls lvl0 1 :=
  RegionSeg.ofHeldIn (pcfgs (F := F)) adm (pdats m) () defs₀ Variants.none lvls lvl0 1 (fun _ => 0) (Pipeline.ucRefs τ sig)
    (fun c => iprop(∃ r, prngReg c r)) (fun c => iprop(∃ r, prngReg c r)) launch1.toP rfl
    (fun c => (Main.body_obligation (fun c b => V3 m (outs0 m) c (Proc.devRef .tc b)) c).loose) (fun _ _ => rfl) (fun _ => rfl) (share1 m)
    (fun c => Main.hin (fun c b => V3 m (outs0 m) c (Proc.devRef .tc b)) c) (fun c => Main.hout (fun c b => V3 m (outs0 m) c (Proc.devRef .tc b)) c) (fun _ => 0) (cut 1) (fun _ => iprop(emp)) (V3 m (outs0 m)) (arr1 m)

theorem hS0 : Pipeline.arrRefs (pcfgs (F := F) 0).spec ⊆ Pipeline.ucRefs τ sig := Pipeline.arrRefs_sub_ucRefs _ launch0.win.arr_unscoped
theorem hS1 : Pipeline.arrRefs (pcfgs (F := F) 1).spec ⊆ Pipeline.ucRefs τ sig := Pipeline.arrRefs_sub_ucRefs _ launch1.win.arr_unscoped

set_option backward.isDefEq.respectTransparency.types false in
set_option maxHeartbeats 2000000 in
theorem hpre0 (c : Dev nD) : iprop(StableHlo.held (c : Thread nD τ) (Pipeline.ucRefs τ sig) (V1 m c) ∗ rest (F := F) c) ⊢ (R0 m).pre c :=
  RegionSeg.ofHeldIn_pre (pcs := pcfgs (F := F)) (a := adm) (pdats := pdats m) (ι := ()) (defs₀ := defs₀) (𝒱₀ := Variants.none) (L := lvls) (lv := lvl0) (p := 0)
    (D := fun _ => 0) (X := fun c => iprop(∃ r, prngReg c r)) (Y := fun c => iprop(∃ r, prngReg c r)) (R := fun _ => iprop(emp)) (W := V1 m)
    (kit := launch0.toP) (b := fun _ => 0) (hcut := cut 0) (hW := arr0 m) hS0 c
set_option backward.isDefEq.respectTransparency.types false in
set_option maxHeartbeats 2000000 in
theorem hpre1 (c : Dev nD) : iprop(StableHlo.held (c : Thread nD τ) (Pipeline.ucRefs τ sig) (V3 m (outs m) c) ∗ rest (F := F) c) ⊢ (R1 m).pre c :=
  RegionSeg.ofHeldIn_pre (pcs := pcfgs (F := F)) (a := adm) (pdats := pdats m) (ι := ()) (defs₀ := defs₀) (𝒱₀ := Variants.none) (L := lvls) (lv := lvl0) (p := 1)
    (D := fun _ => 0) (X := fun c => iprop(∃ r, prngReg c r)) (Y := fun c => iprop(∃ r, prngReg c r)) (R := fun _ => iprop(emp)) (W := V3 m (outs0 m))
    (kit := launch1.toP) (b := fun _ => 0) (hcut := cut 1) (hW := arr1 m) hS1 c
set_option backward.isDefEq.respectTransparency.types false in
theorem hpost0 (c : Dev nD) : (R0 m).post c ⊢ iprop(StableHlo.held (c : Thread nD τ) (Pipeline.ucRefs τ sig) (V2 m (outs m) c) ∗ rest (F := F) c) := by
  rw [← StableHlo.held_congr (c : Thread nD τ) (left0_eq m c)]
  exact RegionSeg.ofHeldIn_post hS0 c
set_option backward.isDefEq.respectTransparency.types false in
theorem hpost1 (c : Dev nD) : (R1 m).post c ⊢ iprop(StableHlo.held (c : Thread nD τ) (Pipeline.ucRefs τ sig) (V4 m (outs m) c) ∗ rest (F := F) c) := by
  rw [← StableHlo.held_congr (c : Thread nD τ) (left1_eq m c)]
  exact RegionSeg.ofHeldIn_post hS1 c

/-- What the launch deals core `c` makes its rest state. -/
theorem hE0_core (ρ : Dev nD → PrngReg) (c : Dev nD) : iprop(unscopedSems0 c ∗ owes (c : Thread nD τ) (0 : CellTallies nD τ sig Unit) ∅
    ∗ Pipeline.launchCred (fun _ => 0) c ∗ prngReg c (ρ c) ∗ emp) ⊢ rest (F := F) c := by
  iintro ⟨_, Ho, _, Hp, He⟩
  isplitl [Ho]; · iexists _; iexact Ho
  isplitl [Hp]; · iexists _; iexact Hp
  iexact He

/-- The launch makes the rest state on every core. -/
theorem hE0 (ρ : Dev nD → PrngReg) : iprop((bigSep Finset.univ fun c : Dev nD => iprop(unscopedSems0 c ∗ owes (c : Thread nD τ) (0 : CellTallies nD τ sig Unit) ∅
      ∗ Pipeline.launchCred (fun _ => 0) c ∗ prngReg c (ρ c) ∗ emp)) ∗ levAts lvls lvl0)
    ⊢ (|={Set.univ}=> bigSep Finset.univ (rest (F := F)) : sProp 𝕄) := by
  have h : (bigSep Finset.univ fun c : Dev nD => iprop(unscopedSems0 c ∗ owes (c : Thread nD τ) (0 : CellTallies nD τ sig Unit) ∅
      ∗ Pipeline.launchCred (fun _ => 0) c ∗ prngReg c (ρ c) ∗ emp)) ⊢ (bigSep Finset.univ (rest (F := F)) : sProp 𝕄) :=
    bigSep_mono fun c _ => hE0_core ρ c
  iintro ⟨H, _⟩
  ihave H' := h $$ H
  imodintro
  iexact H'

/-- Every execution of @main ends with every unscoped buffer at the last valuation and every semaphore counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem (c, b) = V5 m (outs m) c b) ∧ r.2.sem = fun _ => 0) :=
  run_cond (Ix := Unit) (U := UR sig nD τ) (Lvl := ℕ) m (outs m) (emb₁) () Variants.none lvls lvl0 (fun g h => if_neg h) ρ (pdats m) (fun _ => 0) (fun _ => iprop(emp))
    (initOf (Pipeline.cells cfgs cellOf_inj) (Pipeline.launchToks cfgs cellOf_inj))
    (by
      rw [ownU_emb₁]
      iintro H
      imodintro
      isplitl [H]; · iexact H
      rw [show (Finset.univ : Finset (Dev nD)) = {0} from by decide, bigSep_singleton]
      iempintro)
    (fun _ => rest) (hE0 ρ) (fun c => by iintro ⟨Ho, _⟩; iexact Ho) (R0 m) (hpre0 m) (hpost0 m) (R1 m) (hpre1 m) (hpost1 m)

theorem mem_uc (r : Ref sig .tc) (h : r.isScoped = false) : Proc.devRef (τ := τ) .tc r ∈ Pipeline.ucRefs τ sig :=
  Finset.mem_filter.mpr ⟨StableHlo.devRef_mem_tcRefs r, fun h' => Bool.false_ne_true (h.symm.trans h')⟩

/-- The arguments end as launched, and every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ ⟨m, fun _ => 0, ρ⟩).mono (fun r h => ⟨fun c =>
    ⟨(h.1 c _ (mem_uc main_arg0 rfl)).trans (V5_main_arg0 m _ c), (h.1 c _ (mem_uc main_arg1 rfl)).trans (V5_main_arg1 m _ c),
     (h.1 c _ (mem_uc main_arg2 rfl)).trans (V5_main_arg2 m _ c), (h.1 c _ (mem_uc main_arg3 rfl)).trans (V5_main_arg3 m _ c),
     (h.1 c _ (mem_uc main_arg4 rfl)).trans (V5_main_arg4 m _ c), (h.1 c _ (mem_uc main_arg5 rfl)).trans (V5_main_arg5 m _ c)⟩, h.2⟩) (run_main m ρ)

end Cert.KernelIdeal.Run

end
-- ==== Proof.KernelIdeal.Weights.lean ====
/- The kept weights are the dequantised weights: each of the 84 stored pieces is the same function of the codes and the
   scales, read at the piece's place; a load of 1280 whole columns reads that function. -/
module

public import proofs.«01_k».proof.Proof.KernelIdeal.Main
public import Idealize.ShloMosaic.Lib.Pointwise
public import Idealize.ShloMosaic.Lib.Pipeline.ReadBack

@[expose] public section

set_option maxRecDepth 16384

noncomputable section

namespace Cert.KernelIdeal.Main

open Cert.KernelIdeal.Gen
open Idealize.ShloMosaic Idealize.ShloMosaic.TcCoe Idealize.ShloMosaic.Tactic

variable (V : (c : Dev nD) → (b : Ref sig .tc) → Buf (Elt Ideal) ((c : Thread nD τ).loc b))

/-- The place of an entry of a unit-stride rectangle of a matrix. -/
theorem emb_ix2 {A B m n r c : ℕ} (h : ∀ a, ![r, c] a + ![m, n] a ≤ (⟨2, ![A, B]⟩ : Shape).size a) (p : Fin m) (q : Fin n) :
    (Rect.unit (s := ⟨2, ![A, B]⟩) ![r, c] ![m, n] h).emb (ix2 p q)
      = ix2 (⟨r + p.val, by have := h 0; have := p.isLt; simp at *; omega⟩ : Fin A) (⟨c + q.val, by have := h 1; have := q.isLt; simp at *; omega⟩ : Fin B) := by
  funext a; apply Fin.ext
  match a with
  | ⟨0, _⟩ => show r + 1 * p.val = _; rw [one_mul]; rfl
  | ⟨1, _⟩ => show c + 1 * q.val = _; rw [one_mul]; rfl

/-- A row's group of 128 rows. -/
def groupOf (k : Fin 1536) : Fin 12 := ⟨k.val / 128, by omega⟩

/-- The dequantised weights: a code times its group's scale. -/
def wdOf (w : Vec Ideal S1536x8960 .i8) (s : Vec Ideal S12x8960 .f32) : Vec Ideal S1536x8960 .bf16 := fun i =>
  (FloatOps.sitofp (F := Ideal) .bf16 (w i) : EReal) * (s (ix2 (groupOf (i 0)) (i 1)) : EReal)

/-- One stored piece: rows `128 g …` and columns `j …` of the dequantised weights. -/
theorem wd_piece (w : Vec Ideal S1536x8960 .i8) (s : Vec Ideal S12x8960 .f32)
    (a5 : Memref sig .tc .vmem S1536x8960 .i8) (h5 : a5.IsWhole) (a6 : Memref sig .tc .vmem S12x8960 .f32) (h6 : a6.IsWhole)
    (r g j : ℕ) (hr : r = 128 * g)
    (i6 : ∀ a, ![g, j] a + S1x1280.size a ≤ S12x8960.size a) (i5 : ∀ a, ![r, j] a + S128x1280.size a ≤ S1536x8960.size a)
    (x : S128x1280.Idx) :
    k1_pay5 (F := Ideal) (View.readAt (Elt Ideal) a6.view (Rect.unit (s := S12x8960) ![g, j] S1x1280.size i6).toLoadRect (h6.unread s))
        (View.readAt (Elt Ideal) a5.view (Rect.unit (s := S1536x8960) ![r, j] S128x1280.size i5).toLoadRect (h5.unread w)) x
      = wdOf w s ((Rect.unit (s := S1536x8960) ![r, j] S128x1280.size i5).emb x) := by
  subst hr
  rw [View.readAt_eq_ld, View.readAt_eq_ld, h5.read_unread, h6.read_unread]
  idx_vars x
  rw [emb_ix2 i5 x0 x1]
  pointwise [k1_pay5, wdOf, groupOf]
  refine congrArg₂ (fun a b : EReal => a * b) rfl (congrArg s ?_)
  exact congrArg (fun z : Fin 12 => ix2 z _) (Fin.ext (show g = (128 * g + x0.val) / 128 by omega))

section Pieces
variable (c : Dev nD) (a5 : Memref sig .tc .vmem S1536x8960 .i8) (h5 : a5.IsWhole) (a6 : Memref sig .tc .vmem S12x8960 .f32) (h6 : a6.IsWhole)
  (w : Vec Ideal S1536x8960 .i8) (s : Vec Ideal S12x8960 .f32)

theorem wd_pieces_12 : View.PiecesOf (wdOf w s) (kernelRun1_A.sl.HS0_12 (F := Ideal) c a5 h5 a6 h6 w s) := by
  refine ⟨?_, ?_, ?_, ?_, ?_, ?_, ?_, ?_, ?_, ?_, ?_, ?_, trivial⟩ <;>
    exact fun x => wd_piece w s a5 h5 a6 h6 _ _ _ (by rfl) _ _ x

theorem wd_pieces_24 : View.PiecesOf (wdOf w s) (kernelRun1_A.sl.HS0_24 (F := Ideal) c a5 h5 a6 h6 w s) := by
  refine ⟨?_, ?_, ?_, ?_, ?_, ?_, ?_, ?_, ?_, ?_, ?_, ?_, wd_pieces_12 c a5 h5 a6 h6 w s⟩ <;>
    exact fun x => wd_piece w s a5 h5 a6 h6 _ _ _ (by rfl) _ _ x

theorem wd_pieces_36 : View.PiecesOf (wdOf w s) (kernelRun1_A.sl.HS0_36 (F := Ideal) c a5 h5 a6 h6 w s) := by
  refine ⟨?_, ?_, ?_, ?_, ?_, ?_, ?_, ?_, ?_, ?_, ?_, ?_, wd_pieces_24 c a5 h5 a6 h6 w s⟩ <;>
    exact fun x => wd_piece w s a5 h5 a6 h6 _ _ _ (by rfl) _ _ x

theorem wd_pieces_48 : View.PiecesOf (wdOf w s) (kernelRun1_A.sl.HS0_48 (F := Ideal) c a5 h5 a6 h6 w s) := by
  refine ⟨?_, ?_, ?_, ?_, ?_, ?_, ?_, ?_, ?_, ?_, ?_, ?_, wd_pieces_36 c a5 h5 a6 h6 w s⟩ <;>
    exact fun x => wd_piece w s a5 h5 a6 h6 _ _ _ (by rfl) _ _ x

theorem wd_pieces_60 : View.PiecesOf (wdOf w s) (kernelRun1_A.sl.HS0_60 (F := Ideal) c a5 h5 a6 h6 w s) := by
  refine ⟨?_, ?_, ?_, ?_, ?_, ?_, ?_, ?_, ?_, ?_, ?_, ?_, wd_pieces_48 c a5 h5 a6 h6 w s⟩ <;>
    exact fun x => wd_piece w s a5 h5 a6 h6 _ _ _ (by rfl) _ _ x

theorem wd_pieces_72 : View.PiecesOf (wdOf w s) (kernelRun1_A.sl.HS0_72 (F := Ideal) c a5 h5 a6 h6 w s) := by
  refine ⟨?_, ?_, ?_, ?_, ?_, ?_, ?_, ?_, ?_, ?_, ?_, ?_, wd_pieces_60 c a5 h5 a6 h6 w s⟩ <;>
    exact fun x => wd_piece w s a5 h5 a6 h6 _ _ _ (by rfl) _ _ x

theorem wd_pieces_84 : View.PiecesOf (wdOf w s) (kernelRun1_A.sl.HS0_84 (F := Ideal) c a5 h5 a6 h6 w s) := by
  refine ⟨?_, ?_, ?_, ?_, ?_, ?_, ?_, ?_, ?_, ?_, ?_, ?_, wd_pieces_72 c a5 h5 a6 h6 w s⟩ <;>
    exact fun x => wd_piece w s a5 h5 a6 h6 _ _ _ (by rfl) _ _ x

/-- How twelve blocks of 128 rows, the last stored first and standing from place `o` of a list on, cover 1536 rows of their
    columns. -/
def rowsCov (o : ℕ) : LoadRect.Cov :=
  .split 0 128 (.leaf (o + 11)) (.split 0 128 (.leaf (o + 10)) (.split 0 128 (.leaf (o + 9)) (.split 0 128 (.leaf (o + 8))
    (.split 0 128 (.leaf (o + 7)) (.split 0 128 (.leaf (o + 6)) (.split 0 128 (.leaf (o + 5)) (.split 0 128 (.leaf (o + 4))
    (.split 0 128 (.leaf (o + 3)) (.split 0 128 (.leaf (o + 2)) (.split 0 128 (.leaf (o + 1)) (.leaf o)))))))))))

/-- A load of columns that the newest pieces cover reads the dequantised weights. -/
theorem wd_load (v : View sig .tc .vmem S1536x8960 .bf16) (L : List (View.Piece (Elt Ideal) S1536x8960 .bf16)) (hL : View.PiecesOf (wdOf w s) L)
    (r : Rect S1536x8960) (t : LoadRect.Cov) (ht : LoadRect.covChk (L.map Sigma.fst) r.toLoadRect t = true) :
    v.readCov L r.toLoadRect = View.ld (wdOf w s) r := by
  rw [View.readCov_eq_canon']
  funext j
  exact View.canon_apply_of_pieces (wdOf w s) L hL.mem _ (LoadRect.cover_of_covChk L _ t ht j)

end Pieces

/-- What the call keeps in the carried buffer is the dequantised weights. -/
theorem wd_eq (c : Dev nD) : wd V c = wdOf (iblk V c 4 pt0) (iblk V c 5 pt0) := by
  funext y
  have h : View.PiecesOf (wdOf (iblk V c 4 pt0) (iblk V c 5 pt0)) (runA V c pt0 (Nat.zero_mod _)).2.2.2.1 :=
    wd_pieces_84 c _ _ _ _ _ _
  unfold wd
  rw [View.read_writes_eq_canon _ _ _ (coverA_S V c pt0 (Nat.zero_mod _))]
  exact View.canon_apply_of_pieces _ _ h.mem y (coverA_S V c pt0 (Nat.zero_mod _) y)

end Cert.KernelIdeal.Main

end
-- ==== Proof.KernelIdeal.Rows.lean ====
/- The correction, the codes and the product's rows as functions of the dequantised weights: each stored piece is the same
   function read at the piece's columns, at the first point (which loads what it has just stored) and at every later one
   (which loads what was kept). -/
module

public import proofs.«01_k».proof.Proof.KernelIdeal.Weights
public import Idealize.ShloMosaic.Lib.Pointwise
public import Idealize.ShloMosaic.Lib.Pipeline.ReadBack

@[expose] public section

set_option maxRecDepth 16384

noncomputable section

namespace Cert.KernelIdeal.Main

open Cert.KernelIdeal.Gen
open Idealize.ShloMosaic Idealize.ShloMosaic.TcCoe Idealize.ShloMosaic.Tactic

variable (V : (c : Dev nD) → (b : Ref sig .tc) → Buf (Elt Ideal) ((c : Thread nD τ).loc b))

/-- The correction of one column: the bias plus the zero points, over the smoothing factors, times the column. -/
def corrOf (z s : Vec Ideal S1x1536 .f32) (W : Vec Ideal S1536x8960 .bf16) (bias : Vec Ideal S1x8960 .f32) : Vec Ideal S1x8960 .f32 := fun i =>
  (bias (ix2 0 (i 1)) : EReal) + ∑ k : Fin 1536, Ideal.div (z (ix2 0 k)) (s (ix2 0 k)) * (W (ix2 k (i 1)) : EReal)

/-- The product's rows: codes times weights, scaled, plus the correction. -/
def yOf (xs : EReal) (q : Vec Ideal S256x1536 .bf16) (W : Vec Ideal S1536x8960 .bf16) (b : Vec Ideal S1x8960 .f32) : Vec Ideal S256x8960 .bf16 := fun i =>
  (∑ k : Fin 1536, (q (ix2 (i 0) k) : EReal) * (W (ix2 k (i 1)) : EReal)) * xs + (b (ix2 0 (i 1)) : EReal)

/-- One stored piece of the correction. -/
theorem corr_piece (z s : Vec Ideal S1x1536 .f32) (W : Vec Ideal S1536x8960 .bf16) (bias : Vec Ideal S1x8960 .f32)
    (a3 : Memref sig .tc .vmem S1x1536 .f32) (h3 : a3.IsWhole) (a4 : Memref sig .tc .vmem S1x1536 .f32) (h4 : a4.IsWhole)
    (a7 : Memref sig .tc .vmem S1x8960 .f32) (h7 : a7.IsWhole) (j : ℕ)
    (i3 : ∀ a, ![0, 0] a + S1x1536.size a ≤ S1x1536.size a)
    (iw : ∀ a, ![0, j] a + S1536x1280.size a ≤ S1536x8960.size a) (ib : ∀ a, ![0, j] a + S1x1280.size a ≤ S1x8960.size a)
    (L : Vec Ideal S1536x1280 .bf16) (hL : L = View.ld W (Rect.unit (s := S1536x8960) ![0, j] S1536x1280.size iw)) (x : S1x1280.Idx) :
    k1_pay20 (F := Ideal)
        (k1_pay4 (View.readAt (Elt Ideal) a3.view (Rect.unit (s := S1x1536) ![0, 0] S1x1536.size i3).toLoadRect (h3.unread z))
          (View.readAt (Elt Ideal) a4.view (Rect.unit (s := S1x1536) ![0, 0] S1x1536.size i3).toLoadRect (h4.unread s)))
        L (View.readAt (Elt Ideal) a7.view (Rect.unit (s := S1x8960) ![0, j] S1x1280.size ib).toLoadRect (h7.unread bias)) x
      = corrOf z s W bias ((Rect.unit (s := S1x8960) ![0, j] S1x1280.size ib).emb x) := by
  subst hL
  rw [View.readAt_eq_ld, View.readAt_eq_ld, View.readAt_eq_ld, h3.read_unread, h4.read_unread, h7.read_unread]
  idx_vars x
  rw [emb_ix2 ib x0 x1]
  pointwise [k1_pay20, k1_pay4, corrOf]

/-- One stored piece of the product's rows. -/
theorem y_piece (xs : EReal) (q : Vec Ideal S256x1536 .bf16) (W : Vec Ideal S1536x8960 .bf16) (b : Vec Ideal S1x8960 .f32) (j : ℕ)
    (iw : ∀ a, ![0, j] a + S1536x1280.size a ≤ S1536x8960.size a) (ib : ∀ a, ![0, j] a + S1x1280.size a ≤ S1x8960.size a)
    (iy : ∀ a, ![0, j] a + S256x1280.size a ≤ S256x8960.size a)
    (L : Vec Ideal S1536x1280 .bf16) (hL : L = View.ld W (Rect.unit (s := S1536x8960) ![0, j] S1536x1280.size iw))
    (B : Vec Ideal S1x1280 .f32) (hB : B = View.ld b (Rect.unit (s := S1x8960) ![0, j] S1x1280.size ib)) (x : S256x1280.Idx) :
    k1_pay121 (F := Ideal) xs q L B x = yOf xs q W b ((Rect.unit (s := S256x8960) ![0, j] S256x1280.size iy).emb x) := by
  subst hL hB
  idx_vars x
  rw [emb_ix2 iy x0 x1]
  pointwise [k1_pay121, yOf]

section Pieces
variable (c : Dev nD)
  (a3 : Memref sig .tc .vmem S1x1536 .f32) (h3 : a3.IsWhole) (a4 : Memref sig .tc .vmem S1x1536 .f32) (h4 : a4.IsWhole)
  (a5 : Memref sig .tc .vmem S1536x8960 .i8) (h5 : a5.IsWhole) (a6 : Memref sig .tc .vmem S12x8960 .f32) (h6 : a6.IsWhole)
  (a7 : Memref sig .tc .vmem S1x8960 .f32) (h7 : a7.IsWhole) (a11 : Memref sig .tc .vmem S1536x8960 .bf16)
  (z s : Vec Ideal S1x1536 .f32) (w : Vec Ideal S1536x8960 .i8) (ws : Vec Ideal S12x8960 .f32) (bias : Vec Ideal S1x8960 .f32)

/-- The seven pieces of the correction. -/
theorem corr_pieces : View.PiecesOf (corrOf z s (wdOf w ws) bias) (kernelRun1_A.sl.H8_7 (F := Ideal) c a3 h3 a4 h4 a5 h5 a6 h6 a7 h7 a11 z s w ws bias) := by
  refine ⟨?_, ?_, ?_, ?_, ?_, ?_, ?_, trivial⟩
  · exact fun x => corr_piece z s _ bias a3 h3 a4 h4 a7 h7 7680 _ inb_S1536x8960_S1536x1280_0_7680 _ _
      (wd_load w ws _ _ (wd_pieces_84 c a5 h5 a6 h6 w ws) _ (rowsCov 0) (by sl_kernel_rfl)) x
  · exact fun x => corr_piece z s _ bias a3 h3 a4 h4 a7 h7 6400 _ inb_S1536x8960_S1536x1280_0_6400 _ _
      (wd_load w ws _ _ (wd_pieces_72 c a5 h5 a6 h6 w ws) _ (rowsCov 0) (by sl_kernel_rfl)) x
  · exact fun x => corr_piece z s _ bias a3 h3 a4 h4 a7 h7 5120 _ inb_S1536x8960_S1536x1280_0_5120 _ _
      (wd_load w ws _ _ (wd_pieces_60 c a5 h5 a6 h6 w ws) _ (rowsCov 0) (by sl_kernel_rfl)) x
  · exact fun x => corr_piece z s _ bias a3 h3 a4 h4 a7 h7 3840 _ inb_S1536x8960_S1536x1280_0_3840 _ _
      (wd_load w ws _ _ (wd_pieces_48 c a5 h5 a6 h6 w ws) _ (rowsCov 0) (by sl_kernel_rfl)) x
  · exact fun x => corr_piece z s _ bias a3 h3 a4 h4 a7 h7 2560 _ inb_S1536x8960_S1536x1280_0_2560 _ _
      (wd_load w ws _ _ (wd_pieces_36 c a5 h5 a6 h6 w ws) _ (rowsCov 0) (by sl_kernel_rfl)) x
  · exact fun x => corr_piece z s _ bias a3 h3 a4 h4 a7 h7 1280 _ inb_S1536x8960_S1536x1280_0_1280 _ _
      (wd_load w ws _ _ (wd_pieces_24 c a5 h5 a6 h6 w ws) _ (rowsCov 0) (by sl_kernel_rfl)) x
  · exact fun x => corr_piece z s _ bias a3 h3 a4 h4 a7 h7 0 _ inb_S1536x8960_S1536x1280_0_0 _ _
      (wd_load w ws _ _ (wd_pieces_12 c a5 h5 a6 h6 w ws) _ (rowsCov 0) (by sl_kernel_rfl)) x

/-- A load of columns of the correction that the stored pieces cover. -/
theorem corr_load (v : View sig .tc .vmem S1x8960 .f32) (r : Rect S1x8960) (t : LoadRect.Cov)
    (ht : LoadRect.covChk ((kernelRun1_A.sl.H8_7 (F := Ideal) c a3 h3 a4 h4 a5 h5 a6 h6 a7 h7 a11 z s w ws bias).map Sigma.fst) r.toLoadRect t = true) :
    v.readCov (kernelRun1_A.sl.H8_7 (F := Ideal) c a3 h3 a4 h4 a5 h5 a6 h6 a7 h7 a11 z s w ws bias) r.toLoadRect
      = View.ld (corrOf z s (wdOf w ws) bias) r := by
  rw [View.readCov_eq_canon']
  funext j
  exact View.canon_apply_of_pieces _ _ (corr_pieces c a3 h3 a4 h4 a5 h5 a6 h6 a7 h7 a11 z s w ws bias).mem _ (LoadRect.cover_of_covChk _ _ t ht j)

end Pieces

/-- What the first point leaves of the correction. -/
theorem corr_eq (c : Dev nD) : corr V c = corrOf (iblk V c 2 pt0) (iblk V c 3 pt0) (wdOf (iblk V c 4 pt0) (iblk V c 5 pt0)) (iblk V c 6 pt0) := by
  funext y
  have h : View.PiecesOf (corrOf (iblk V c 2 pt0) (iblk V c 3 pt0) (wdOf (iblk V c 4 pt0) (iblk V c 5 pt0)) (iblk V c 6 pt0)) (runA V c pt0 (Nat.zero_mod _)).2.1 :=
    corr_pieces c _ _ _ _ _ _ _ _ _ _ _ _ _ _ _ _
  unfold corr
  rw [View.read_writes_eq_canon _ _ _ (coverA_8 V c pt0 (Nat.zero_mod _))]
  exact View.canon_apply_of_pieces _ _ h.mem y (coverA_8 V c pt0 (Nat.zero_mod _) y)

/-- The static scale, as the body reads it. -/
def xsOf (xs : Vec Ideal S1 .f32) : EReal := xs (ix1 0)

/-- The codes before they are stored, of one block of rows. -/
def codesOf (xs : EReal) (x : Vec Ideal S256x1536 .bf16) (z s : Vec Ideal S1x1536 .f32) : FVec Ideal S256x1536 .f32 := k1_pay117 (F := Ideal) xs x z s

theorem zero2 : (![0, 0] : Fin 2 → ℕ) = fun _ => 0 := by funext a; match a with | ⟨0, _⟩ => rfl | ⟨1, _⟩ => rfl

/-- The static scale loaded is its one entry. -/
theorem xs_load (a1 : Memref sig .tc .smem S1 .f32) (h1 : a1.IsWhole) (xs : Vec Ideal S1 .f32) (i : ∀ a, ![0] a + S1.size a ≤ S1.size a)
    (h : 0 < (Rect.unit (s := S1) ![0] S1.size i).shape.numel) :
    View.readAt (Elt Ideal) a1.view (Rect.unit (s := S1) ![0] S1.size i).toLoadRect (h1.unread xs) (Shape.Idx.first h) = xsOf xs := by
  rw [View.readAt_eq_ld, h1.read_unread]
  unfold xsOf
  refine congrArg xs ?_
  funext a
  match a with
  | ⟨0, _⟩ => exact Fin.ext rfl

/-- A whole block loaded is the block. -/
theorem load_whole {A B : ℕ} {e : EltTy} {sp : Space} (a : Memref sig .tc sp ⟨2, ![A, B]⟩ e) (h : a.IsWhole) (X : (⟨2, ![A, B]⟩ : Shape).Idx → Elt Ideal e)
    (i : ∀ a, ![0, 0] a + (⟨2, ![A, B]⟩ : Shape).size a ≤ (⟨2, ![A, B]⟩ : Shape).size a) :
    View.readAt (Elt Ideal) a.view (Rect.unit (s := ⟨2, ![A, B]⟩) ![0, 0] (⟨2, ![A, B]⟩ : Shape).size i).toLoadRect (h.unread X) = X := by
  rw [View.readAt_eq_ld, h.read_unread, View.ld_unit_zero zero2]

/-- The codes that point `t` leaves. -/
theorem q_eq (c : Dev nD) (t : Fin cfg1.N) :
    qAt V c t = fptosi 8 (codesOf (xsOf (iblk V c 0 t)) (iblk V c 1 t) (iblk V c 2 t) (iblk V c 3 t)) := by
  unfold qAt qPieces
  split
  · rename_i h
    rw [View.read_writes_eq_canon _ _ _ (coverA_9 V c t h)]
    unfold runA kernelRun1_A kernelRun1_A.sl.r_24
    dsimp only
    rw [View.canon_unit_zero zero2, xs_load, load_whole, load_whole, load_whole]
    rfl
  · rename_i h
    rw [View.read_writes_eq_canon _ _ _ (coverB_9 V c t h)]
    unfold runB kernelRun1_B kernelRun1_B.sl.r
    dsimp only
    rw [View.canon_unit_zero zero2, xs_load, load_whole, load_whole, load_whole]
    rfl

/-- A load of the kept weights. -/
theorem wd_kept (c : Dev nD) (r : Rect S1536x8960) :
    View.readAt (Elt Ideal) scM1_0.view r.toLoadRect ((Memref.isWhole_whole _ : scM1_0.IsWhole).unread (wd V c)) = View.ld (wd V c) r := by
  rw [View.readAt_eq_ld, (Memref.isWhole_whole _ : scM1_0.IsWhole).read_unread]

/-- A load of the correction. -/
theorem corr_kept (c : Dev nD) (t : Fin cfg1.N) (r : Rect S1x8960) :
    View.readAt (Elt Ideal) (ms1_8 t).view r.toLoadRect ((hs1_8 t).unread (corr V c)) = View.ld (corr V c) r := by
  rw [View.readAt_eq_ld, (hs1_8 t).read_unread]

theorem y_piecesA (c : Dev nD) (t : Fin cfg1.N) (h0 : t.val % 64 = 0) :
    View.PiecesOf (yOf (kernelRun1_A.sl.r_24 c (ms1_0 t) (hs1_0 t) (iblk V c 0 t))
        (kernelRun1_A.sl.r_25 c (ms1_0 t) (hs1_0 t) (ms1_1 t) (hs1_1 t) (ms1_2 t) (hs1_2 t) (ms1_3 t) (hs1_3 t) (iblk V c 0 t) (iblk V c 1 t) (iblk V c 2 t) (iblk V c 3 t))
        (wdOf (iblk V c 4 t) (iblk V c 5 t))
        (corrOf (iblk V c 2 t) (iblk V c 3 t) (wdOf (iblk V c 4 t) (iblk V c 5 t)) (iblk V c 6 t))) (runA V c t h0).1 := by
  refine ⟨?_, ?_, ?_, ?_, ?_, ?_, ?_, trivial⟩
  · exact fun x => y_piece _ _ _ _ 7680 inb_S1536x8960_S1536x1280_0_7680 inb_S1x8960_S1x1280_0_7680 inb_S256x8960_S256x1280_0_7680 _
      (wd_load _ _ _ _ (wd_pieces_84 c _ _ _ _ _ _) _ (rowsCov 0) (by sl_kernel_rfl)) _
      (corr_load c _ _ _ _ _ _ _ _ _ _ _ _ _ _ _ _ _ _ (.leaf 0) (by sl_kernel_rfl)) x
  · exact fun x => y_piece _ _ _ _ 6400 inb_S1536x8960_S1536x1280_0_6400 inb_S1x8960_S1x1280_0_6400 inb_S256x8960_S256x1280_0_6400 _
      (wd_load _ _ _ _ (wd_pieces_84 c _ _ _ _ _ _) _ (rowsCov 12) (by sl_kernel_rfl)) _
      (corr_load c _ _ _ _ _ _ _ _ _ _ _ _ _ _ _ _ _ _ (.leaf 1) (by sl_kernel_rfl)) x
  · exact fun x => y_piece _ _ _ _ 5120 inb_S1536x8960_S1536x1280_0_5120 inb_S1x8960_S1x1280_0_5120 inb_S256x8960_S256x1280_0_5120 _
      (wd_load _ _ _ _ (wd_pieces_84 c _ _ _ _ _ _) _ (rowsCov 24) (by sl_kernel_rfl)) _
      (corr_load c _ _ _ _ _ _ _ _ _ _ _ _ _ _ _ _ _ _ (.leaf 2) (by sl_kernel_rfl)) x
  · exact fun x => y_piece _ _ _ _ 3840 inb_S1536x8960_S1536x1280_0_3840 inb_S1x8960_S1x1280_0_3840 inb_S256x8960_S256x1280_0_3840 _
      (wd_load _ _ _ _ (wd_pieces_84 c _ _ _ _ _ _) _ (rowsCov 36) (by sl_kernel_rfl)) _
      (corr_load c _ _ _ _ _ _ _ _ _ _ _ _ _ _ _ _ _ _ (.leaf 3) (by sl_kernel_rfl)) x
  · exact fun x => y_piece _ _ _ _ 2560 inb_S1536x8960_S1536x1280_0_2560 inb_S1x8960_S1x1280_0_2560 inb_S256x8960_S256x1280_0_2560 _
      (wd_load _ _ _ _ (wd_pieces_84 c _ _ _ _ _ _) _ (rowsCov 48) (by sl_kernel_rfl)) _
      (corr_load c _ _ _ _ _ _ _ _ _ _ _ _ _ _ _ _ _ _ (.leaf 4) (by sl_kernel_rfl)) x
  · exact fun x => y_piece _ _ _ _ 1280 inb_S1536x8960_S1536x1280_0_1280 inb_S1x8960_S1x1280_0_1280 inb_S256x8960_S256x1280_0_1280 _
      (wd_load _ _ _ _ (wd_pieces_84 c _ _ _ _ _ _) _ (rowsCov 60) (by sl_kernel_rfl)) _
      (corr_load c _ _ _ _ _ _ _ _ _ _ _ _ _ _ _ _ _ _ (.leaf 5) (by sl_kernel_rfl)) x
  · exact fun x => y_piece _ _ _ _ 0 inb_S1536x8960_S1536x1280_0_0 inb_S1x8960_S1x1280_0_0 inb_S256x8960_S256x1280_0_0 _
      (wd_load _ _ _ _ (wd_pieces_84 c _ _ _ _ _ _) _ (rowsCov 72) (by sl_kernel_rfl)) _
      (corr_load c _ _ _ _ _ _ _ _ _ _ _ _ _ _ _ _ _ _ (.leaf 6) (by sl_kernel_rfl)) x

/-- The codes as a first point names them. -/
theorem codesA (c : Dev nD) (t : Fin cfg1.N) :
    kernelRun1_A.sl.r_25 c (ms1_0 t) (hs1_0 t) (ms1_1 t) (hs1_1 t) (ms1_2 t) (hs1_2 t) (ms1_3 t) (hs1_3 t) (iblk V c 0 t) (iblk V c 1 t) (iblk V c 2 t) (iblk V c 3 t)
      = truncf .bf16 (codesOf (xsOf (iblk V c 0 t)) (iblk V c 1 t) (iblk V c 2 t) (iblk V c 3 t)) bitsLt_bf16_f32 := by
  unfold kernelRun1_A.sl.r_25 kernelRun1_A.sl.r_24
  rw [xs_load, load_whole, load_whole, load_whole]
  rfl

theorem y_piecesB (c : Dev nD) (t : Fin cfg1.N) (h0 : ¬t.val % 64 = 0) :
    View.PiecesOf (yOf (kernelRun1_B.sl.r c (ms1_0 t) (hs1_0 t) (iblk V c 0 t))
        (kernelRun1_B.sl.r_1 c (ms1_0 t) (hs1_0 t) (ms1_1 t) (hs1_1 t) (ms1_2 t) (hs1_2 t) (ms1_3 t) (hs1_3 t) (iblk V c 0 t) (iblk V c 1 t) (iblk V c 2 t) (iblk V c 3 t))
        (wd V c) (corr V c)) (runB V c t h0).1 := by
  refine ⟨?_, ?_, ?_, ?_, ?_, ?_, ?_, trivial⟩
  · exact fun x => y_piece _ _ _ _ 7680 inb_S1536x8960_S1536x1280_0_7680 inb_S1x8960_S1x1280_0_7680 inb_S256x8960_S256x1280_0_7680 _ (wd_kept V c _) _ (corr_kept V c t _) x
  · exact fun x => y_piece _ _ _ _ 6400 inb_S1536x8960_S1536x1280_0_6400 inb_S1x8960_S1x1280_0_6400 inb_S256x8960_S256x1280_0_6400 _ (wd_kept V c _) _ (corr_kept V c t _) x
  · exact fun x => y_piece _ _ _ _ 5120 inb_S1536x8960_S1536x1280_0_5120 inb_S1x8960_S1x1280_0_5120 inb_S256x8960_S256x1280_0_5120 _ (wd_kept V c _) _ (corr_kept V c t _) x
  · exact fun x => y_piece _ _ _ _ 3840 inb_S1536x8960_S1536x1280_0_3840 inb_S1x8960_S1x1280_0_3840 inb_S256x8960_S256x1280_0_3840 _ (wd_kept V c _) _ (corr_kept V c t _) x
  · exact fun x => y_piece _ _ _ _ 2560 inb_S1536x8960_S1536x1280_0_2560 inb_S1x8960_S1x1280_0_2560 inb_S256x8960_S256x1280_0_2560 _ (wd_kept V c _) _ (corr_kept V c t _) x
  · exact fun x => y_piece _ _ _ _ 1280 inb_S1536x8960_S1536x1280_0_1280 inb_S1x8960_S1x1280_0_1280 inb_S256x8960_S256x1280_0_1280 _ (wd_kept V c _) _ (corr_kept V c t _) x
  · exact fun x => y_piece _ _ _ _ 0 inb_S1536x8960_S1536x1280_0_0 inb_S1x8960_S1x1280_0_0 inb_S256x8960_S256x1280_0_0 _ (wd_kept V c _) _ (corr_kept V c t _) x

/-- The codes as a later point names them. -/
theorem codesB (c : Dev nD) (t : Fin cfg1.N) :
    kernelRun1_B.sl.r_1 c (ms1_0 t) (hs1_0 t) (ms1_1 t) (hs1_1 t) (ms1_2 t) (hs1_2 t) (ms1_3 t) (hs1_3 t) (iblk V c 0 t) (iblk V c 1 t) (iblk V c 2 t) (iblk V c 3 t)
      = truncf .bf16 (codesOf (xsOf (iblk V c 0 t)) (iblk V c 1 t) (iblk V c 2 t) (iblk V c 3 t)) bitsLt_bf16_f32 := by
  unfold kernelRun1_B.sl.r_1 kernelRun1_B.sl.r
  rw [xs_load, load_whole, load_whole, load_whole]
  rfl

/-- The product's rows that point `t` leaves. -/
theorem y_eq (c : Dev nD) (t : Fin cfg1.N) :
    yAt V c t = yOf (xsOf (iblk V c 0 t)) (truncf .bf16 (codesOf (xsOf (iblk V c 0 t)) (iblk V c 1 t) (iblk V c 2 t) (iblk V c 3 t)) bitsLt_bf16_f32)
      (wd V c) (corr V c) := by
  funext y
  unfold yAt yPieces
  split
  · rename_i h
    obtain rfl : t = pt0 := Fin.ext (by have := t.isLt; have : cfg1.N = 64 := N_1; show t.val = 0; omega)
    rw [View.read_writes_eq_canon _ _ _ (coverA_7 V c _ h), View.canon_apply_of_pieces _ _ (y_piecesA V c _ h).mem y (coverA_7 V c _ h y), codesA, wd_eq, corr_eq]
    unfold kernelRun1_A.sl.r_24
    rw [xs_load]
  · rename_i h
    rw [View.read_writes_eq_canon _ _ _ (coverB_7 V c _ h), View.canon_apply_of_pieces _ _ (y_piecesB V c _ h).mem y (coverB_7 V c _ h y), codesB]
    unfold kernelRun1_B.sl.r
    rw [xs_load]

end Cert.KernelIdeal.Main

end
-- ==== Proof.Quantised.lean ====
/- The mathematics both programs compute, over the extended reals and coordinate by coordinate: the midrange zero points of
   the channels, the clipped rounded codes, the dequantised weights, the corrected bias and the product's rows. -/
module

public import Idealize.ShloMosaic.Lib.Pointwise

@[expose] public section

noncomputable section

namespace Cert.Quantised

open Idealize.ShloMosaic

/-- The group of 128 weight rows a row belongs to. -/
def group (k : Fin 1536) : Fin 12 := ⟨k.val / 128, by omega⟩

/-- A channel's zero point: half the sum of its largest and smallest entry. -/
def zero (X : Fin 16 → Fin 1024 → Fin 1536 → EReal) (k : Fin 1536) : EReal :=
  Ideal.div ((⨆ a, ⨆ r, X a r k) + (⨅ a, ⨅ r, X a r k)) (Ideal.ofBits .f32 0x40000000#32)

/-- An entry's code: shifted, divided by the channel's factor and by the step, rounded to even and clipped to ±127. -/
def code (xs x z s : EReal) : EReal :=
  min (Ideal.ofBits .f32 0x42FE0000#32) (max (Ideal.ofBits .f32 0xC2FE0000#32)
    (Ideal.liftRound Ideal.roundHalfEven (Ideal.div (Ideal.div (x - z) s) xs)))

/-- A dequantised weight. -/
def weight (w : Fin 1536 → Fin 8960 → BitVec 8) (ws : Fin 12 → Fin 8960 → EReal) (k : Fin 1536) (n : Fin 8960) : EReal :=
  (((w k n).toInt : ℝ) : EReal) * ws (group k) n

/-- The corrected bias of a column. -/
def corr (Z s : Fin 1536 → EReal) (W : Fin 1536 → Fin 8960 → EReal) (bias : Fin 8960 → EReal) (n : Fin 8960) : EReal :=
  bias n + ∑ k : Fin 1536, Ideal.div (Z k) (s k) * W k n

/-- An entry of the product, for one row of the input. -/
def row (xs : EReal) (x Z s : Fin 1536 → EReal) (W : Fin 1536 → Fin 8960 → EReal) (b : Fin 8960 → EReal) (n : Fin 8960) : EReal :=
  (∑ k : Fin 1536, code xs (x k) (Z k) (s k) * W k n) * xs + b n

theorem ofBits_127 : Ideal.ofBits .f32 0x42FE0000#32 = (((127 : ℤ) : ℝ) : EReal) := by
  simp [Ideal.ofBits, Ideal.ieee, -EReal.coe_mul]; norm_num

theorem ofBits_neg127 : Ideal.ofBits .f32 0xC2FE0000#32 = (((-127 : ℤ) : ℝ) : EReal) := by
  simp [Ideal.ofBits, Ideal.ieee, -EReal.coe_mul]; norm_num

/-- A code is an integer between −127 and 127. -/
theorem code_int (xs x z s : EReal) : ∃ n : ℤ, -127 ≤ n ∧ n ≤ 127 ∧ code xs x z s = ((n : ℝ) : EReal) := by
  unfold code
  rw [ofBits_127, ofBits_neg127]
  generalize Ideal.div (Ideal.div (x - z) s) xs = v
  induction v using EReal.rec with
  | bot => exact ⟨-127, by omega, by omega, by
      rw [show Ideal.liftRound Ideal.roundHalfEven ⊥ = ⊥ from rfl, max_eq_left bot_le, min_eq_right]
      exact_mod_cast (by norm_num : (-127 : ℤ) ≤ 127)⟩
  | top => exact ⟨127, by omega, by omega, by
      rw [show Ideal.liftRound Ideal.roundHalfEven ⊤ = ⊤ from rfl, max_eq_right le_top, min_eq_left le_top]⟩
  | coe r => exact ⟨min 127 (max (-127) (Ideal.roundHalfEven r)), by omega, by omega, by
      have hm : Monotone fun n : ℤ => ((n : ℝ) : EReal) := fun a b h => EReal.coe_le_coe_iff.mpr (Int.cast_le.mpr h)
      rw [show Ideal.liftRound Ideal.roundHalfEven (r : EReal) = ((Ideal.roundHalfEven r : ℝ) : EReal) from rfl]
      exact ((hm.map_min (a := 127)).trans (by rw [hm.map_max])).symm⟩

/-- So storing a code as a signed byte and reading it back changes nothing. -/
theorem code_byte (xs x z s : EReal) :
    (((Ideal.fptosi 8 (code xs x z s)).toInt : ℝ) : EReal) = code xs x z s := by
  obtain ⟨n, h0, h1, h⟩ := code_int xs x z s
  rw [h]
  have e : Ideal.fptosi 8 ((n : ℝ) : EReal) = BitVec.ofInt 8 n := by
    show BitVec.ofInt 8 (max _ (min _ (if (0 : ℝ) ≤ (n : ℝ) then ⌊(n : ℝ)⌋ else ⌈(n : ℝ)⌉))) = _
    rw [Int.floor_intCast, Int.ceil_intCast, ite_self]
    congr 1
    norm_num
    omega
  rw [e, BitVec.toInt_ofInt]
  congr 2
  simp only [Int.bmod]
  omega

end Cert.Quantised

end
-- ==== Proof.KernelIdeal.Arrays.lean ====
/- The main call's three output arrays in full, as functions of the arrays it reads: the row blocks tile the product and the
   codes; the correction is one block, written back at the last point. -/
module

public import proofs.«01_k».proof.Proof.KernelIdeal.Rows
public import proofs.«01_k».proof.Proof.Quantised
public import Idealize.ShloMosaic.Lib.Pointwise

@[expose] public section

set_option maxRecDepth 16384

noncomputable section

namespace Cert.KernelIdeal.Main

open Cert.KernelIdeal.Gen
open Idealize.ShloMosaic Idealize.ShloMosaic.TcCoe Idealize.ShloMosaic.Tactic

variable (V : (c : Dev nD) → (b : Ref sig .tc) → Buf (Elt Ideal) ((c : Thread nD τ).loc b))

/-! ## The blocks of the input windows -/

theorem idx_1 : ∀ t : Fin cfg1.N, win1_1.index t (0 : Fin 2) = t.val ∧ win1_1.index t (1 : Fin 2) = 0 :=
  (by decide +kernel : ∀ t : Fin grid1.N, _)
theorem idx_0 : ∀ t : Fin cfg1.N, win1_0.index t (0 : Fin 1) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)
theorem idx_7 : ∀ t : Fin cfg1.N, win1_7.index t (0 : Fin 2) = t.val ∧ win1_7.index t (1 : Fin 2) = 0 :=
  (by decide +kernel : ∀ t : Fin grid1.N, _)
theorem idx_8 : ∀ t : Fin cfg1.N, win1_8.index t (0 : Fin 2) = 0 ∧ win1_8.index t (1 : Fin 2) = 0 :=
  (by decide +kernel : ∀ t : Fin grid1.N, _)
theorem idx_9 : ∀ t : Fin cfg1.N, win1_9.index t (0 : Fin 2) = t.val ∧ win1_9.index t (1 : Fin 2) = 0 :=
  (by decide +kernel : ∀ t : Fin grid1.N, _)

theorem lt64 (t : Fin cfg1.N) : t.val < 64 := lt_of_lt_of_eq t.isLt N_1

/-- Row `p` of point `t`'s block of the input is row `256 t + p`. -/
theorem x_block (c : Dev nD) (t : Fin cfg1.N) (p : Fin 256) (k : Fin 1536) :
    (iblk V c 1 t : Vec Ideal S256x1536 .bf16) (ix2 p k)
      = (V c main_v0 : Vec Ideal S16384x1536 .bf16) (ix2 ⟨256 * t.val + p.val, by have := lt64 t; omega⟩ k) := by
  obtain ⟨e0, e1⟩ := idx_1 t
  show V c main_v0 (((cfg1.win 1).blk t).view.emb (ix2 p k)) = _
  congr 1
  funext a
  apply Fin.ext
  match a with
  | ⟨0, _⟩ => show win1_1.index t (0 : Fin 2) * 256 + 1 * p.val = 256 * t.val + p.val; omega
  | ⟨1, _⟩ => show win1_1.index t (1 : Fin 2) * 1536 + 1 * k.val = k.val; omega

theorem block_0 (c : Dev nD) (t : Fin cfg1.N) : (iblk V c 0 t : Vec Ideal S1 .f32) = V c main_arg2 := by
  have e0 := idx_0 t
  funext i
  show V c main_arg2 (((cfg1.win 0).blk t).view.emb i) = _
  congr 1
  funext a
  apply Fin.ext
  match a with
  | ⟨0, _⟩ => show win1_0.index t (0 : Fin 1) * 1 + 1 * (i 0).val = (i 0).val; omega
theorem block_2 (c : Dev nD) (t : Fin cfg1.N) : (iblk V c 2 t : Vec Ideal S1x1536 .f32) = V c main_v1 := by
  obtain ⟨e0, e1⟩ := idx_2 t
  funext i
  show V c main_v1 (((cfg1.win 2).blk t).view.emb i) = _
  congr 1
  funext a
  apply Fin.ext
  match a with
  | ⟨0, _⟩ => show win1_2.index t (0 : Fin 2) * 1 + 1 * (i 0).val = (i 0).val; omega
  | ⟨1, _⟩ => show win1_2.index t (1 : Fin 2) * 1536 + 1 * (i 1).val = (i 1).val; omega
theorem block_3 (c : Dev nD) (t : Fin cfg1.N) : (iblk V c 3 t : Vec Ideal S1x1536 .f32) = V c main_v2 := by
  obtain ⟨e0, e1⟩ := idx_3 t
  funext i
  show V c main_v2 (((cfg1.win 3).blk t).view.emb i) = _
  congr 1
  funext a
  apply Fin.ext
  match a with
  | ⟨0, _⟩ => show win1_3.index t (0 : Fin 2) * 1 + 1 * (i 0).val = (i 0).val; omega
  | ⟨1, _⟩ => show win1_3.index t (1 : Fin 2) * 1536 + 1 * (i 1).val = (i 1).val; omega
theorem block_4 (c : Dev nD) (t : Fin cfg1.N) : (iblk V c 4 t : Vec Ideal S1536x8960 .i8) = V c main_arg3 := by
  obtain ⟨e0, e1⟩ := idx_4 t
  funext i
  show V c main_arg3 (((cfg1.win 4).blk t).view.emb i) = _
  congr 1
  funext a
  apply Fin.ext
  match a with
  | ⟨0, _⟩ => show win1_4.index t (0 : Fin 2) * 1536 + 1 * (i 0).val = (i 0).val; omega
  | ⟨1, _⟩ => show win1_4.index t (1 : Fin 2) * 8960 + 1 * (i 1).val = (i 1).val; omega
theorem block_5 (c : Dev nD) (t : Fin cfg1.N) : (iblk V c 5 t : Vec Ideal S12x8960 .f32) = V c main_arg4 := by
  obtain ⟨e0, e1⟩ := idx_5 t
  funext i
  show V c main_arg4 (((cfg1.win 5).blk t).view.emb i) = _
  congr 1
  funext a
  apply Fin.ext
  match a with
  | ⟨0, _⟩ => show win1_5.index t (0 : Fin 2) * 12 + 1 * (i 0).val = (i 0).val; omega
  | ⟨1, _⟩ => show win1_5.index t (1 : Fin 2) * 8960 + 1 * (i 1).val = (i 1).val; omega
theorem block_6 (c : Dev nD) (t : Fin cfg1.N) : (iblk V c 6 t : Vec Ideal S1x8960 .f32) = V c main_v3 := by
  obtain ⟨e0, e1⟩ := idx_6 t
  funext i
  show V c main_v3 (((cfg1.win 6).blk t).view.emb i) = _
  congr 1
  funext a
  apply Fin.ext
  match a with
  | ⟨0, _⟩ => show win1_6.index t (0 : Fin 2) * 1 + 1 * (i 0).val = (i 0).val; omega
  | ⟨1, _⟩ => show win1_6.index t (1 : Fin 2) * 8960 + 1 * (i 1).val = (i 1).val; omega

/-! ## The arrays the call reads, by coordinates -/

def rX (c : Dev nD) (p : Fin 16384) (k : Fin 1536) : EReal := (V c main_v0 : Vec Ideal S16384x1536 .bf16) (ix2 p k)
def rZ (c : Dev nD) (k : Fin 1536) : EReal := (V c main_v1 : Vec Ideal S1x1536 .f32) (ix2 0 k)
def rS (c : Dev nD) (k : Fin 1536) : EReal := (V c main_v2 : Vec Ideal S1x1536 .f32) (ix2 0 k)
def rXs (c : Dev nD) : EReal := (V c main_arg2 : Vec Ideal S1 .f32) (ix1 0)
def rW (c : Dev nD) (k : Fin 1536) (n : Fin 8960) : EReal :=
  Quantised.weight (fun k n => (V c main_arg3 : Vec Ideal S1536x8960 .i8) (ix2 k n))
    (fun g n => (V c main_arg4 : Vec Ideal S12x8960 .f32) (ix2 g n)) k n
def rBias (c : Dev nD) (n : Fin 8960) : EReal := (V c main_v3 : Vec Ideal S1x8960 .f32) (ix2 0 n)
def rCorr (c : Dev nD) (n : Fin 8960) : EReal := Quantised.corr (rZ V c) (rS V c) (rW V c) (rBias V c) n

theorem wd_at (c : Dev nD) (k : Fin 1536) (n : Fin 8960) : (wd V c (ix2 k n) : EReal) = rW V c k n := by
  rw [wd_eq, block_4, block_5]
  rfl

theorem corr_at (c : Dev nD) (n : Fin 8960) : (corr V c (ix2 0 n) : EReal) = rCorr V c n := by
  rw [corr_eq, ← wd_eq, block_2, block_3, block_6]
  unfold rCorr Quantised.corr
  simp only [← wd_at]
  rfl

theorem codes_at (xs : EReal) (x : Vec Ideal S256x1536 .bf16) (z s : Vec Ideal S1x1536 .f32) (p : Fin 256) (k : Fin 1536) :
    (codesOf xs x z s (ix2 p k) : EReal) = Quantised.code xs (x (ix2 p k)) (z (ix2 0 k)) (s (ix2 0 k)) := by
  unfold codesOf
  pointwise [k1_pay117, Quantised.code]

theorem q_at (c : Dev nD) (t : Fin cfg1.N) (p : Fin 256) (k : Fin 1536) :
    qAt V c t (ix2 p k)
      = Ideal.fptosi 8 (Quantised.code (rXs V c) (rX V c ⟨256 * t.val + p.val, by have := lt64 t; omega⟩ k) (rZ V c k) (rS V c k)) := by
  rw [q_eq]
  show Ideal.fptosi 8 (codesOf _ _ _ _ (ix2 p k)) = _
  rw [codes_at, x_block, block_0, block_2, block_3]
  rfl

theorem y_at (c : Dev nD) (t : Fin cfg1.N) (p : Fin 256) (n : Fin 8960) :
    (yAt V c t (ix2 p n) : EReal)
      = Quantised.row (rXs V c) (rX V c ⟨256 * t.val + p.val, by have := lt64 t; omega⟩) (rZ V c) (rS V c) (rW V c) (rCorr V c) n := by
  rw [y_eq]
  show (∑ k : Fin 1536, (codesOf _ _ _ _ (ix2 p k) : EReal) * (wd V c (ix2 k n) : EReal)) * _ + (corr V c (ix2 0 n) : EReal) = _
  rw [corr_at]
  simp only [codes_at, x_block, block_0, block_2, block_3, wd_at]
  rfl

/-! ## The output arrays -/

/-- The product's array: row `p` is the row of the codes of row `p`. -/
def yArr (c : Dev nD) : Vec Ideal S16384x8960 .bf16 := fun i =>
  Quantised.row (rXs V c) (rX V c (i 0)) (rZ V c) (rS V c) (rW V c) (rCorr V c) (i 1)
/-- The correction's array. -/
def cArr (c : Dev nD) : Vec Ideal S1x8960 .f32 := fun i => rCorr V c (i 1)
/-- The codes' array. -/
def qArr (c : Dev nD) : Vec Ideal S16384x1536 .i8 := fun i =>
  Ideal.fptosi 8 (Quantised.code (rXs V c) (rX V c (i 0) (i 1)) (rZ V c (i 1)) (rS V c (i 1)))

theorem flushed_7 (c : Dev nD) (t : Fin cfg1.N) :
    (dat V c).flushed 7 t = ((cfg1.win 7).blk t).view.read (Elt Ideal) (yArr V c) := by
  show (cfg1.win 7).cut (grid1.coords t) ((dat V c).after 7 t) = _
  rw [after1_7]
  obtain ⟨e0, e1⟩ := idx_7 t
  funext y
  obtain ⟨p, n, rfl⟩ : ∃ (p : Fin 256) (n : Fin 8960), y = ix2 p n := ⟨y 0, y 1, by funext a; match a with | ⟨0, _⟩ => rfl | ⟨1, _⟩ => rfl⟩
  have hp := lt64 t
  have h : ((cfg1.win 7).blk t).view.emb (ix2 p n) = ix2 ⟨256 * t.val + p.val, by omega⟩ n := by
    funext a
    apply Fin.ext
    match a with
    | ⟨0, _⟩ => show win1_7.index t (0 : Fin 2) * 256 + 1 * p.val = 256 * t.val + p.val; omega
    | ⟨1, _⟩ => show win1_7.index t (1 : Fin 2) * 8960 + 1 * n.val = n.val; omega
  show yAt V c t (ix2 p n) = yArr V c (((cfg1.win 7).blk t).view.emb (ix2 p n))
  rw [h]
  exact y_at V c t p n

theorem flushed_9 (c : Dev nD) (t : Fin cfg1.N) :
    (dat V c).flushed 9 t = ((cfg1.win 9).blk t).view.read (Elt Ideal) (qArr V c) := by
  show (cfg1.win 9).cut (grid1.coords t) ((dat V c).after 9 t) = _
  rw [after1_9]
  obtain ⟨e0, e1⟩ := idx_9 t
  funext y
  obtain ⟨p, n, rfl⟩ : ∃ (p : Fin 256) (n : Fin 1536), y = ix2 p n := ⟨y 0, y 1, by funext a; match a with | ⟨0, _⟩ => rfl | ⟨1, _⟩ => rfl⟩
  have hp := lt64 t
  have h : ((cfg1.win 9).blk t).view.emb (ix2 p n) = ix2 ⟨256 * t.val + p.val, by omega⟩ n := by
    funext a
    apply Fin.ext
    match a with
    | ⟨0, _⟩ => show win1_9.index t (0 : Fin 2) * 256 + 1 * p.val = 256 * t.val + p.val; omega
    | ⟨1, _⟩ => show win1_9.index t (1 : Fin 2) * 1536 + 1 * n.val = n.val; omega
  show qAt V c t (ix2 p n) = qArr V c (((cfg1.win 9).blk t).view.emb (ix2 p n))
  rw [h]
  exact q_at V c t p n

theorem flushed_8 (c : Dev nD) (t : Fin cfg1.N) :
    (dat V c).flushed 8 t = ((cfg1.win 8).blk t).view.read (Elt Ideal) (cArr V c) := by
  show (cfg1.win 8).cut (grid1.coords t) ((dat V c).after 8 t) = _
  rw [after1_8]
  obtain ⟨e0, e1⟩ := idx_8 t
  funext y
  obtain ⟨p, n, rfl⟩ : ∃ (p : Fin 1) (n : Fin 8960), y = ix2 p n := ⟨y 0, y 1, by funext a; match a with | ⟨0, _⟩ => rfl | ⟨1, _⟩ => rfl⟩
  obtain rfl : p = 0 := Subsingleton.elim _ _
  have h : ((cfg1.win 8).blk t).view.emb (ix2 (0 : Fin 1) n) = ix2 0 n := by
    funext a
    apply Fin.ext
    match a with
    | ⟨0, _⟩ => show win1_8.index t (0 : Fin 2) * 1 + 1 * 0 = 0; omega
    | ⟨1, _⟩ => show win1_8.index t (1 : Fin 2) * 8960 + 1 * n.val = n.val; omega
  show corr V c (ix2 0 n) = cArr V c (((cfg1.win 8).blk t).view.emb (ix2 (0 : Fin 1) n))
  rw [h]
  exact corr_at V c n

theorem mem_7 (t : Fin cfg1.N) (i : S16384x8960.Idx) : i ∈ ((cfg1.win 7).blk t).view.set
    ↔ ∀ a : Fin 2, win1_7.index t a * S256x8960.size a ≤ (i a).val ∧ (i a).val < win1_7.index t a * S256x8960.size a + S256x8960.size a := by
  show i ∈ ((View.whole main_v4_0).slice (win1_7.rect t)).set ↔ _
  rw [View.set_slice_whole, Rect.mem_set_unit]
  exact Iff.rfl
theorem mem_8 (t : Fin cfg1.N) (i : S1x8960.Idx) : i ∈ ((cfg1.win 8).blk t).view.set
    ↔ ∀ a : Fin 2, win1_8.index t a * S1x8960.size a ≤ (i a).val ∧ (i a).val < win1_8.index t a * S1x8960.size a + S1x8960.size a := by
  show i ∈ ((View.whole main_v4_1).slice (win1_8.rect t)).set ↔ _
  rw [View.set_slice_whole, Rect.mem_set_unit]
  exact Iff.rfl
theorem mem_9 (t : Fin cfg1.N) (i : S16384x1536.Idx) : i ∈ ((cfg1.win 9).blk t).view.set
    ↔ ∀ a : Fin 2, win1_9.index t a * S256x1536.size a ≤ (i a).val ∧ (i a).val < win1_9.index t a * S256x1536.size a + S256x1536.size a := by
  show i ∈ ((View.whole main_v4_2).slice (win1_9.rect t)).set ↔ _
  rw [View.set_slice_whole, Rect.mem_set_unit]
  exact Iff.rfl

/-- The point whose row block holds row `p`. -/
def ptOf (p : Fin 16384) : Fin cfg1.N := ⟨p.val / 256, lt_of_lt_of_eq (by omega) N_1.symm⟩

/-- The product after the call. -/
theorem final_7 (c : Dev nD) : (dat V c).arrAt 7 cfg1.N = yArr V c :=
  (dat V c).arrAt_eq_of_cover 7 _ (fun t _ => flushed_7 V c t) (fun i => ⟨ptOf (i 0), flush1_7 _, by
    rw [mem_7]
    obtain ⟨e0, e1⟩ := idx_7 (ptOf (i 0))
    have hv : (ptOf (i 0)).val = (i 0).val / 256 := rfl
    have h1 : (i 1).val < 8960 := (i 1).isLt
    intro a
    match a with
    | ⟨0, _⟩ => show win1_7.index _ (0 : Fin 2) * 256 ≤ (i 0).val ∧ (i 0).val < win1_7.index _ (0 : Fin 2) * 256 + 256; omega
    | ⟨1, _⟩ => show win1_7.index _ (1 : Fin 2) * 8960 ≤ (i 1).val ∧ (i 1).val < win1_7.index _ (1 : Fin 2) * 8960 + 8960; omega⟩)

/-- The codes after the call. -/
theorem final_9 (c : Dev nD) : (dat V c).arrAt 9 cfg1.N = qArr V c :=
  (dat V c).arrAt_eq_of_cover 9 _ (fun t _ => flushed_9 V c t) (fun i => ⟨ptOf (i 0), flush1_9 _, by
    rw [mem_9]
    obtain ⟨e0, e1⟩ := idx_9 (ptOf (i 0))
    have hv : (ptOf (i 0)).val = (i 0).val / 256 := rfl
    have h1 : (i 1).val < 1536 := (i 1).isLt
    intro a
    match a with
    | ⟨0, _⟩ => show win1_9.index _ (0 : Fin 2) * 256 ≤ (i 0).val ∧ (i 0).val < win1_9.index _ (0 : Fin 2) * 256 + 256; omega
    | ⟨1, _⟩ => show win1_9.index _ (1 : Fin 2) * 1536 ≤ (i 1).val ∧ (i 1).val < win1_9.index _ (1 : Fin 2) * 1536 + 1536; omega⟩)

/-- The correction after the call. -/
theorem final_8 (c : Dev nD) : (dat V c).arrAt 8 cfg1.N = cArr V c :=
  (dat V c).arrAt_eq_of_cover 8 _ (fun t _ => flushed_8 V c t) (fun i =>
    ⟨⟨63, lt_of_lt_of_eq (by omega) N_1.symm⟩, (flush1_8 _).mpr rfl, by
    rw [mem_8]
    obtain ⟨e0, e1⟩ := idx_8 ⟨63, lt_of_lt_of_eq (by omega) N_1.symm⟩
    have h0 : (i 0).val < 1 := (i 0).isLt
    have h1 : (i 1).val < 8960 := (i 1).isLt
    intro a
    match a with
    | ⟨0, _⟩ => show win1_8.index _ (0 : Fin 2) * 1 ≤ (i 0).val ∧ (i 0).val < win1_8.index _ (0 : Fin 2) * 1 + 1; omega
    | ⟨1, _⟩ => show win1_8.index _ (1 : Fin 2) * 8960 ≤ (i 1).val ∧ (i 1).val < win1_8.index _ (1 : Fin 2) * 8960 + 8960; omega⟩)

end Cert.KernelIdeal.Main

end
-- ==== Proof.KernelIdeal.Extremes.lean ====
/- The first call's running maxima and minima: within one block of rows, sixteen rows at a time, and over the blocks. A
   running value is described by its bounds: it is below a bound exactly when every entry it has met is. -/
module

public import proofs.«01_k».proof.Proof.KernelIdeal.Stats
public import proofs.«01_k».proof.Proof.Quantised
public import Idealize.ShloMosaic.Lib.Pointwise
public import Idealize.ShloMosaic.Lib.Pipeline.ReadBack

@[expose] public section

set_option maxRecDepth 16384

noncomputable section

namespace Cert.KernelIdeal.Stats

open Cert.KernelIdeal.Gen
open Idealize.ShloMosaic Idealize.ShloMosaic.TcCoe Idealize.ShloMosaic.Tactic

variable (V : (c : Dev nD) → (b : Ref sig .tc) → Buf (Elt Ideal) ((c : Thread nD τ).loc b))

/-- `v` holds, at row `p` of sixteen, the extreme of the rows `16 g + p` with `g < n`, for the order `R`. -/
def Extreme (R : EReal → EReal → Prop) (x : Vec Ideal S1024x1536 .bf16) (n : ℕ) (v : FVec Ideal S16x1536 .bf16) : Prop :=
  ∀ (p : Fin 16) (k : Fin 1536) (b : EReal), R (v (ix2 p k)) b ↔
    ∀ g : Fin 64, g.val < n → R (x (ix2 ⟨16 * g.val + p.val, by omega⟩ k)) b

section Block
variable (a : Memref sig .tc .vmem S1024x1536 .bf16) (h : a.IsWhole) (x : Vec Ideal S1024x1536 .bf16)

/-- Sixteen loaded rows. -/
theorem rows_at (o n : ℕ) (hn : n < 64) (ho : o = 16 * n) (i : ∀ a, ![o, 0] a + S16x1536.size a ≤ S1024x1536.size a) (p : Fin 16) (k : Fin 1536) :
    View.readAt (Elt Ideal) a.view (Rect.unit (s := S1024x1536) ![o, 0] S16x1536.size i).toLoadRect (h.unread x) (ix2 p k)
      = x (ix2 ⟨16 * n + p.val, by omega⟩ k) := by
  subst ho
  rw [View.readAt_eq_ld, h.read_unread]
  show x _ = x _
  congr 1
  funext c
  apply Fin.ext
  match c with
  | ⟨0, _⟩ => show 16 * n + 1 * p.val = 16 * n + p.val; omega
  | ⟨1, _⟩ => show 0 + 1 * k.val = k.val; omega

theorem extreme_first (R : EReal → EReal → Prop) (i : ∀ a, ![0, 0] a + S16x1536.size a ≤ S1024x1536.size a) :
    Extreme R x 1 (shapeCast S16x1536 (View.readAt (Elt Ideal) a.view (Rect.unit (s := S1024x1536) ![0, 0] S16x1536.size i).toLoadRect (h.unread x))
      shapeCasts_S16x1536_S16x1536) := by
  intro p k b
  have e := rows_at a h x 0 0 (by omega) rfl i p k
  pointwise
  rw [e]
  constructor
  · intro hb g hg
    obtain rfl : g = 0 := Fin.ext (by omega)
    exact hb
  · exact fun hb => hb 0 (by decide)

theorem extreme_step (R : EReal → EReal → Prop) (n o : ℕ) (hn : n < 64) (ho : o = 16 * n)
    (i : ∀ a, ![o, 0] a + S16x1536.size a ≤ S1024x1536.size a) (v w : FVec Ideal S16x1536 .bf16) (hv : Extreme R x n v)
    (hw : ∀ (p : Fin 16) (k : Fin 1536) (b : EReal), R (w (ix2 p k)) b ↔ R (v (ix2 p k)) b
      ∧ R (View.readAt (Elt Ideal) a.view (Rect.unit (s := S1024x1536) ![o, 0] S16x1536.size i).toLoadRect (h.unread x) (ix2 p k)) b) :
    Extreme R x (n + 1) w := by
  intro p k b
  rw [hw, hv p k b, rows_at a h x o n hn ho i p k]
  constructor
  · rintro ⟨h1, h2⟩ g hg
    rcases Nat.lt_or_ge g.val n with hlt | hge
    · exact h1 g hlt
    · obtain rfl : g = ⟨n, hn⟩ := Fin.ext (by show g.val = n; omega)
      exact h2
  · exact fun hb => ⟨fun g hg => hb g (by omega), hb ⟨n, hn⟩ (by show n < n + 1; omega)⟩

/-- The maximum with the next sixteen rows. -/
theorem hi_step (n o : ℕ) (hn : n < 64) (ho : o = 16 * n) (i : ∀ a, ![o, 0] a + S16x1536.size a ≤ S1024x1536.size a)
    (v : FVec Ideal S16x1536 .bf16) (hv : Extreme (· ≤ ·) x n v) :
    Extreme (· ≤ ·) x (n + 1) (maximumf v (shapeCast S16x1536 (View.readAt (Elt Ideal) a.view (Rect.unit (s := S1024x1536) ![o, 0] S16x1536.size i).toLoadRect (h.unread x))
      shapeCasts_S16x1536_S16x1536)) := by
  refine extreme_step a h x (· ≤ ·) n o hn ho i v _ hv fun p k b => ?_
  pointwise
  exact max_le_iff

/-- The minimum with the next sixteen rows. -/
theorem lo_step (n o : ℕ) (hn : n < 64) (ho : o = 16 * n) (i : ∀ a, ![o, 0] a + S16x1536.size a ≤ S1024x1536.size a)
    (v : FVec Ideal S16x1536 .bf16) (hv : Extreme (fun u b => b ≤ u) x n v) :
    Extreme (fun u b => b ≤ u) x (n + 1) (minimumf v (shapeCast S16x1536 (View.readAt (Elt Ideal) a.view (Rect.unit (s := S1024x1536) ![o, 0] S16x1536.size i).toLoadRect (h.unread x))
      shapeCasts_S16x1536_S16x1536)) := by
  refine extreme_step a h x (fun u b => b ≤ u) n o hn ho i v _ hv fun p k b => ?_
  pointwise
  exact le_min_iff

/-! The chain as the body's parts name it, ten loads a part. -/

theorem hi_10 (c : Dev nD) : Extreme (· ≤ ·) x 10 (kernelRun0_A.sl.r (F := Ideal) c a h x) := by
  unfold kernelRun0_A.sl.r k0_pay22
  iterate 9 refine hi_step a h x _ _ (by decide) (by rfl) _ _ ?_
  exact extreme_first a h x _ _
theorem hi_20 (c : Dev nD) : Extreme (· ≤ ·) x 20 (kernelRun0_A.sl.r_2 (F := Ideal) c a h x) := by
  unfold kernelRun0_A.sl.r_2 k0_pay34
  iterate 10 refine hi_step a h x _ _ (by decide) (by rfl) _ _ ?_
  exact hi_10 a h x c
theorem hi_30 (c : Dev nD) : Extreme (· ≤ ·) x 30 (kernelRun0_A.sl.r_4 (F := Ideal) c a h x) := by
  unfold kernelRun0_A.sl.r_4 k0_pay46
  iterate 10 refine hi_step a h x _ _ (by decide) (by rfl) _ _ ?_
  exact hi_20 a h x c
theorem hi_40 (c : Dev nD) : Extreme (· ≤ ·) x 40 (kernelRun0_A.sl.r_6 (F := Ideal) c a h x) := by
  unfold kernelRun0_A.sl.r_6 k0_pay58
  iterate 10 refine hi_step a h x _ _ (by decide) (by rfl) _ _ ?_
  exact hi_30 a h x c
theorem hi_50 (c : Dev nD) : Extreme (· ≤ ·) x 50 (kernelRun0_A.sl.r_8 (F := Ideal) c a h x) := by
  unfold kernelRun0_A.sl.r_8 k0_pay70
  iterate 10 refine hi_step a h x _ _ (by decide) (by rfl) _ _ ?_
  exact hi_40 a h x c
theorem hi_60 (c : Dev nD) : Extreme (· ≤ ·) x 60 (kernelRun0_A.sl.r_10 (F := Ideal) c a h x) := by
  unfold kernelRun0_A.sl.r_10 k0_pay82
  iterate 10 refine hi_step a h x _ _ (by decide) (by rfl) _ _ ?_
  exact hi_50 a h x c

theorem lo_10 (c : Dev nD) : Extreme (fun u b => b ≤ u) x 10 (kernelRun0_A.sl.r_1 (F := Ideal) c a h x) := by
  unfold kernelRun0_A.sl.r_1 k0_pay23
  iterate 9 refine lo_step a h x _ _ (by decide) (by rfl) _ _ ?_
  exact extreme_first a h x _ _
theorem lo_20 (c : Dev nD) : Extreme (fun u b => b ≤ u) x 20 (kernelRun0_A.sl.r_3 (F := Ideal) c a h x) := by
  unfold kernelRun0_A.sl.r_3 k0_pay35
  iterate 10 refine lo_step a h x _ _ (by decide) (by rfl) _ _ ?_
  exact lo_10 a h x c
theorem lo_30 (c : Dev nD) : Extreme (fun u b => b ≤ u) x 30 (kernelRun0_A.sl.r_5 (F := Ideal) c a h x) := by
  unfold kernelRun0_A.sl.r_5 k0_pay47
  iterate 10 refine lo_step a h x _ _ (by decide) (by rfl) _ _ ?_
  exact lo_20 a h x c
theorem lo_40 (c : Dev nD) : Extreme (fun u b => b ≤ u) x 40 (kernelRun0_A.sl.r_7 (F := Ideal) c a h x) := by
  unfold kernelRun0_A.sl.r_7 k0_pay59
  iterate 10 refine lo_step a h x _ _ (by decide) (by rfl) _ _ ?_
  exact lo_30 a h x c
theorem lo_50 (c : Dev nD) : Extreme (fun u b => b ≤ u) x 50 (kernelRun0_A.sl.r_9 (F := Ideal) c a h x) := by
  unfold kernelRun0_A.sl.r_9 k0_pay71
  iterate 10 refine lo_step a h x _ _ (by decide) (by rfl) _ _ ?_
  exact lo_40 a h x c
theorem lo_60 (c : Dev nD) : Extreme (fun u b => b ≤ u) x 60 (kernelRun0_A.sl.r_11 (F := Ideal) c a h x) := by
  unfold kernelRun0_A.sl.r_11 k0_pay83
  iterate 10 refine lo_step a h x _ _ (by decide) (by rfl) _ _ ?_
  exact lo_50 a h x c

/-- A load of sixteen rows at an offset. -/
abbrev ldRows (o : ℕ) (i : ∀ a, ![o, 0] a + S16x1536.size a ≤ S1024x1536.size a) : Vec Ideal S16x1536 .bf16 :=
  View.readAt (Elt Ideal) a.view (Rect.unit (s := S1024x1536) ![o, 0] S16x1536.size i).toLoadRect (h.unread x)

/-- A block's maxima, as the body leaves them after its last load. -/
def hiBlk (c : Dev nD) : FVec Ideal S16x1536 .bf16 :=
  k0_pay5 (kernelRun0_A.sl.r_10 (F := Ideal) c a h x) (ldRows a h x 960 inb_S1024x1536_S16x1536_960_0) (ldRows a h x 976 inb_S1024x1536_S16x1536_976_0)
    (ldRows a h x 992 inb_S1024x1536_S16x1536_992_0) (ldRows a h x 1008 inb_S1024x1536_S16x1536_1008_0)
/-- A block's minima, likewise. -/
def loBlk (c : Dev nD) : FVec Ideal S16x1536 .bf16 :=
  k0_pay6 (kernelRun0_A.sl.r_11 (F := Ideal) c a h x) (ldRows a h x 960 inb_S1024x1536_S16x1536_960_0) (ldRows a h x 976 inb_S1024x1536_S16x1536_976_0)
    (ldRows a h x 992 inb_S1024x1536_S16x1536_992_0) (ldRows a h x 1008 inb_S1024x1536_S16x1536_1008_0)

theorem hi_64 (c : Dev nD) : Extreme (· ≤ ·) x 64 (hiBlk a h x c) := by
  unfold hiBlk k0_pay5
  iterate 4 refine hi_step a h x _ _ (by decide) (by rfl) _ _ ?_
  exact hi_60 a h x c
theorem lo_64 (c : Dev nD) : Extreme (fun u b => b ≤ u) x 64 (loBlk a h x c) := by
  unfold loBlk k0_pay6
  iterate 4 refine lo_step a h x _ _ (by decide) (by rfl) _ _ ?_
  exact lo_60 a h x c

end Block

theorem zero2 : (![0, 0] : Fin 2 → ℕ) = fun _ => 0 := by funext a; match a with | ⟨0, _⟩ => rfl | ⟨1, _⟩ => rfl

theorem cast_self (v : FVec Ideal S16x1536 .bf16) : shapeCast S16x1536 v shapeCasts_S16x1536_S16x1536 = v := by
  funext i
  idx_vars i
  pointwise

section Points
variable (c : Dev nD) (i : grid0.Coords) (a1 : Memref sig .tc .vmem S1024x1536 .bf16) (h1 : a1.IsWhole) (a2 : Memref sig .tc .vmem S1x1536 .f32) (h2 : a2.IsWhole)
  (a3 : Memref sig .tc .vmem S16x1536 .bf16) (h3 : a3.IsWhole) (a4 : Memref sig .tc .vmem S16x1536 .bf16) (h4 : a4.IsWhole)
  (x : Vec Ideal S1024x1536 .bf16) (hi lo : Vec Ideal S16x1536 .bf16)

/-! What the three kinds of points leave in the two running arrays. -/

theorem hi_A (c0 : cond0_0 i) (c1 : ¬cond0_1 i) (c2 : ¬cond0_2 i) :
    sout0_A_0 c i a1 h1 a2 h2 a3 h3 a4 h4 c0 c1 c2 x = hiBlk a1 h1 x c := by
  unfold sout0_A_0
  rw [View.read_writes_eq_canon _ _ _ (scover0_A_0 c i a1 h1 a2 h2 a3 h3 a4 h4 c0 c1 c2 x)]
  unfold kernelRun0_A
  dsimp only
  rw [View.canon_unit_zero zero2]
  exact cast_self _
theorem lo_A (c0 : cond0_0 i) (c1 : ¬cond0_1 i) (c2 : ¬cond0_2 i) :
    sout0_A_1 c i a1 h1 a2 h2 a3 h3 a4 h4 c0 c1 c2 x = loBlk a1 h1 x c := by
  unfold sout0_A_1
  rw [View.read_writes_eq_canon _ _ _ (scover0_A_1 c i a1 h1 a2 h2 a3 h3 a4 h4 c0 c1 c2 x)]
  unfold kernelRun0_A
  dsimp only
  rw [View.canon_unit_zero zero2]
  exact cast_self _

theorem load16 (a : Memref sig .tc .vmem S16x1536 .bf16) (h : a.IsWhole) (X : Vec Ideal S16x1536 .bf16) (i : ∀ a, ![0, 0] a + S16x1536.size a ≤ S16x1536.size a) :
    View.readAt (Elt Ideal) a.view (Rect.unit (s := S16x1536) ![0, 0] S16x1536.size i).toLoadRect (h.unread X) = X := by
  rw [View.readAt_eq_ld, h.read_unread, View.ld_unit_zero zero2]

/-- The running maxima with the block's. -/
theorem hi_next : k0_pay9 (kernelRun0_A.sl.r_10 (F := Ideal) c a1 h1 x) (ldRows a1 h1 x 960 inb_S1024x1536_S16x1536_960_0) (ldRows a1 h1 x 976 inb_S1024x1536_S16x1536_976_0)
      (ldRows a1 h1 x 992 inb_S1024x1536_S16x1536_992_0) (ldRows a1 h1 x 1008 inb_S1024x1536_S16x1536_1008_0)
      (View.readAt (Elt Ideal) a3.view (Rect.unit (s := S16x1536) ![0, 0] S16x1536.size inb_S16x1536_S16x1536_0_0).toLoadRect (h3.unread hi))
    = maximumf hi (hiBlk a1 h1 x c) := by
  rw [load16]
  exact cast_self _
/-- The running minima with the block's. -/
theorem lo_next : k0_pay10 (kernelRun0_A.sl.r_11 (F := Ideal) c a1 h1 x) (ldRows a1 h1 x 960 inb_S1024x1536_S16x1536_960_0) (ldRows a1 h1 x 976 inb_S1024x1536_S16x1536_976_0)
      (ldRows a1 h1 x 992 inb_S1024x1536_S16x1536_992_0) (ldRows a1 h1 x 1008 inb_S1024x1536_S16x1536_1008_0)
      (View.readAt (Elt Ideal) a4.view (Rect.unit (s := S16x1536) ![0, 0] S16x1536.size inb_S16x1536_S16x1536_0_0).toLoadRect (h4.unread lo))
    = minimumf lo (loBlk a1 h1 x c) := by
  rw [load16]
  exact cast_self _

theorem hi_B (c0 : ¬cond0_0 i) (c1 : cond0_1 i) (c2 : ¬cond0_2 i) :
    sout0_B_0 c i a1 h1 a2 h2 a3 h3 a4 h4 c0 c1 c2 x hi lo = maximumf hi (hiBlk a1 h1 x c) := by
  unfold sout0_B_0
  rw [View.read_writes_eq_canon _ _ _ (scover0_B_0 c i a1 h1 a2 h2 a3 h3 a4 h4 c0 c1 c2 x hi lo)]
  unfold kernelRun0_B
  dsimp only
  rw [View.canon_unit_zero zero2]
  exact hi_next c a1 h1 a3 h3 x hi
theorem lo_B (c0 : ¬cond0_0 i) (c1 : cond0_1 i) (c2 : ¬cond0_2 i) :
    sout0_B_1 c i a1 h1 a2 h2 a3 h3 a4 h4 c0 c1 c2 x hi lo = minimumf lo (loBlk a1 h1 x c) := by
  unfold sout0_B_1
  rw [View.read_writes_eq_canon _ _ _ (scover0_B_1 c i a1 h1 a2 h2 a3 h3 a4 h4 c0 c1 c2 x hi lo)]
  unfold kernelRun0_B
  dsimp only
  rw [View.canon_unit_zero zero2]
  exact lo_next c a1 h1 a4 h4 x lo

/-- The last point also stores the midranges, of the running arrays as it leaves them. -/
theorem out_C (c0 : ¬cond0_0 i) (c1 : cond0_1 i) (c2 : cond0_2 i) :
    out0_C_1 c i a1 h1 a2 h2 a3 h3 a4 h4 c0 c1 c2 x hi lo
      = k0_pay11 (maximumf hi (hiBlk a1 h1 x c)) (minimumf lo (loBlk a1 h1 x c)) := by
  unfold out0_C_1
  rw [View.read_writes_eq_canon _ _ _ (cover0_C_1 c i a1 h1 a2 h2 a3 h3 a4 h4 c0 c1 c2 x hi lo)]
  unfold kernelRun0_C kernelRun0_C.sl.v263 kernelRun0_C.sl.v267 kernelRun0_C.sl.HS0_1 kernelRun0_C.sl.HS1_1
  dsimp only
  rw [View.canon_unit_zero zero2, View.readCov_eq_canon', View.readCov_eq_canon', View.canon_unit_zero zero2, View.canon_unit_zero zero2]
  refine congrArg₂ k0_pay11 ?_ ?_
  · exact (View.ld_unit_zero (Val := Elt Ideal) (S := S16x1536) (e := .bf16) zero2 inb_S16x1536_S16x1536_0_0 _).trans (hi_next c a1 h1 a3 h3 x hi)
  · exact (View.ld_unit_zero (Val := Elt Ideal) (S := S16x1536) (e := .bf16) zero2 inb_S16x1536_S16x1536_0_0 _).trans (lo_next c a1 h1 a4 h4 x lo)

end Points

end Cert.KernelIdeal.Stats

end
-- ==== Proof.KernelIdeal.Midrange.lean ====
/- The zero points after the first call: half the sum of a channel's largest and smallest entry over all rows. -/
module

public import proofs.«01_k».proof.Proof.KernelIdeal.Extremes

@[expose] public section

set_option maxRecDepth 16384

noncomputable section

namespace Cert.KernelIdeal.Stats

open Cert.KernelIdeal.Gen
open Idealize.ShloMosaic Idealize.ShloMosaic.TcCoe Idealize.ShloMosaic.Tactic

variable (V : (c : Dev nD) → (b : Ref sig .tc) → Buf (Elt Ideal) ((c : Thread nD τ).loc b))

/-- The input's entries, by row and channel. -/
def rX (c : Dev nD) (r : Fin 16384) (k : Fin 1536) : EReal := (V c main_v0 : Vec Ideal S16384x1536 .bf16) (ix2 r k)

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)

theorem lt16 (t : Fin cfg0.N) : t.val < 16 := lt_of_lt_of_eq t.isLt N_0

/-- Row `q` of point `t`'s block is row `1024 t + q`. -/
theorem x_block (c : Dev nD) (t : Fin cfg0.N) (q : Fin 1024) (k : Fin 1536) :
    (iblk V c 0 t : Vec Ideal S1024x1536 .bf16) (ix2 q k) = rX V c ⟨1024 * t.val + q.val, by have := lt16 t; omega⟩ k := by
  obtain ⟨e0, e1⟩ := idx_0 t
  show V c main_v0 (((cfg0.win 0).blk t).view.emb (ix2 q k)) = V c main_v0 _
  congr 1
  funext a
  apply Fin.ext
  match a with
  | ⟨0, _⟩ => show win0_0.index t (0 : Fin 2) * 1024 + 1 * q.val = 1024 * t.val + q.val; omega
  | ⟨1, _⟩ => show win0_0.index t (1 : Fin 2) * 1536 + 1 * k.val = k.val; omega

/-- `v` holds, at row `p` of sixteen, the extreme of the rows from `l` below `u` that are `p` modulo sixteen. -/
def Over (R : EReal → EReal → Prop) (c : Dev nD) (l u : ℕ) (v : FVec Ideal S16x1536 .bf16) : Prop :=
  ∀ (p : Fin 16) (k : Fin 1536) (b : EReal), R (v (ix2 p k)) b ↔
    ∀ r : Fin 16384, l ≤ r.val → r.val < u → r.val % 16 = p.val → R (rX V c r k) b

theorem over_block (R : EReal → EReal → Prop) (c : Dev nD) (t : Fin cfg0.N) (v : FVec Ideal S16x1536 .bf16)
    (hv : Extreme R (iblk V c 0 t) 64 v) : Over V R c (1024 * t.val) (1024 * t.val + 1024) v := by
  intro p k b
  have ht := lt16 t
  rw [hv p k b]
  constructor
  · intro h r h0 h1 h2
    have := h ⟨(r.val - 1024 * t.val) / 16, by omega⟩ (by show (r.val - 1024 * t.val) / 16 < 64; omega)
    rw [x_block] at this
    have e : (⟨1024 * t.val + (16 * ((r.val - 1024 * t.val) / 16) + p.val), by omega⟩ : Fin 16384) = r := Fin.ext (by show 1024 * t.val + (16 * ((r.val - 1024 * t.val) / 16) + p.val) = r.val; omega)
    rw [← e]
    exact this
  · intro h g hg
    rw [x_block]
    exact h _ (by show 1024 * t.val ≤ 1024 * t.val + (16 * g.val + p.val); omega)
      (by show 1024 * t.val + (16 * g.val + p.val) < 1024 * t.val + 1024; omega)
      (by show (1024 * t.val + (16 * g.val + p.val)) % 16 = p.val; omega)

/-- The extreme over two adjacent stretches of rows. -/
theorem over_join (R : EReal → EReal → Prop) (c : Dev nD) (l m u : ℕ) (hl : l ≤ m) (hm : m ≤ u) (v w o : FVec Ideal S16x1536 .bf16)
    (hv : Over V R c l m v) (hw : Over V R c m u w)
    (ho : ∀ (p : Fin 16) (k : Fin 1536) (b : EReal), R (o (ix2 p k)) b ↔ R (v (ix2 p k)) b ∧ R (w (ix2 p k)) b) : Over V R c l u o := by
  intro p k b
  rw [ho, hv p k b, hw p k b]
  constructor
  · rintro ⟨h1, h2⟩ r h3 h4 h5
    rcases Nat.lt_or_ge r.val m with h | h
    · exact h1 r h3 h h5
    · exact h2 r h h4 h5
  · exact fun h => ⟨fun r h3 h4 h5 => h r h3 (by omega) h5, fun r h3 h4 h5 => h r (by omega) h4 h5⟩

theorem max_over (c : Dev nD) (t : Fin cfg0.N) (a : Memref sig .tc .vmem S1024x1536 .bf16) (h : a.IsWhole) (v : FVec Ideal S16x1536 .bf16)
    (hv : Over V (· ≤ ·) c 0 (1024 * t.val) v) : Over V (· ≤ ·) c 0 (1024 * t.val + 1024) (maximumf v (hiBlk a h (iblk V c 0 t) c)) :=
  over_join V _ c 0 (1024 * t.val) _ (by omega) (by omega) v _ _ hv (over_block V _ c t _ (hi_64 a h _ c)) fun p k b => max_le_iff
theorem min_over (c : Dev nD) (t : Fin cfg0.N) (a : Memref sig .tc .vmem S1024x1536 .bf16) (h : a.IsWhole) (v : FVec Ideal S16x1536 .bf16)
    (hv : Over V (fun u b => b ≤ u) c 0 (1024 * t.val) v) : Over V (fun u b => b ≤ u) c 0 (1024 * t.val + 1024) (minimumf v (loBlk a h (iblk V c 0 t) c)) :=
  over_join V _ c 0 (1024 * t.val) _ (by omega) (by omega) v _ _ hv (over_block V _ c t _ (lo_64 a h _ c)) fun p k b => le_min_iff

/-- The running arrays before the last point: the extremes of all rows met. -/
theorem running (c : Dev nD) : ∀ (n : ℕ) (hn : n < cfg0.N), n < 15 →
    Over V (· ≤ ·) c 0 (1024 * n + 1024) (outsAt0 V c n hn).2.1 ∧ Over V (fun u b => b ≤ u) c 0 (1024 * n + 1024) (outsAt0 V c n hn).2.2
  | 0, hn, _ => by
    rw [outsAt0_A V c ⟨0, hn⟩ (Nat.zero_mod _) (by show ¬1 ≤ 0; omega) (by show ¬0 % 16 = 15; omega)]
    dsimp only
    rw [hi_A, lo_A]
    exact ⟨over_block V _ c ⟨0, hn⟩ _ (hi_64 _ _ _ c), over_block V _ c ⟨0, hn⟩ _ (lo_64 _ _ _ c)⟩
  | n + 1, hn, h => by
    obtain ⟨e0, e1⟩ := running c n (by omega) (by omega)
    rw [outsAt0_B V c ⟨n + 1, hn⟩ (by show ¬(n + 1) % 16 = 0; omega) (by show 1 ≤ n + 1; omega) (by show ¬(n + 1) % 16 = 15; omega)]
    dsimp only
    rw [hi_B, lo_B]
    exact ⟨max_over V c ⟨n + 1, hn⟩ _ _ _ e0, min_over V c ⟨n + 1, hn⟩ _ _ _ e1⟩

/-- Reducing sixteen rows of extremes over all input rows gives the midrange. -/
theorem pay11_at (c : Dev nD) (hi lo : FVec Ideal S16x1536 .bf16) (h : Over V (· ≤ ·) c 0 16384 hi) (l : Over V (fun u b => b ≤ u) c 0 16384 lo) (k : Fin 1536) :
    (k0_pay11 (F := Ideal) hi lo (ix2 0 k) : EReal) = Quantised.zero (fun a r k => rX V c ⟨1024 * a.val + r.val, by omega⟩ k) k := by
  unfold Quantised.zero
  pointwise [k0_pay11]
  have e1 : Finset.fold max (Ideal.ofBits FTy.f32 4286578688#32) (fun p : Fin 16 => (hi (ix2 p k) : EReal)) Finset.univ
      = ⨆ a : Fin 16, ⨆ r : Fin 1024, rX V c ⟨1024 * a.val + r.val, by omega⟩ k := by
    rw [show Ideal.ofBits FTy.f32 4286578688#32 = ⊥ by simp [Ideal.ofBits, Ideal.ieee]]
    refine eq_of_forall_ge_iff fun b => ?_
    rw [Finset.fold_max_le]
    simp only [iSup_le_iff]
    constructor
    · rintro ⟨-, hb⟩ a r
      exact (h ⟨(1024 * a.val + r.val) % 16, by omega⟩ k b).mp (hb _ (Finset.mem_univ _)) ⟨1024 * a.val + r.val, by omega⟩ (Nat.zero_le _) (by show 1024 * a.val + r.val < 16384; omega) rfl
    · refine fun hb => ⟨bot_le, fun p _ => (h p k b).mpr fun r _ _ _ => ?_⟩
      have := hb ⟨r.val / 1024, by omega⟩ ⟨r.val % 1024, by omega⟩
      have e : (⟨1024 * (r.val / 1024) + r.val % 1024, by omega⟩ : Fin 16384) = r := Fin.ext (by show 1024 * (r.val / 1024) + r.val % 1024 = r.val; omega)
      rw [← e]
      exact this
  have e2 : Finset.fold min (Ideal.ofBits FTy.f32 2139095040#32) (fun p : Fin 16 => (lo (ix2 p k) : EReal)) Finset.univ
      = ⨅ a : Fin 16, ⨅ r : Fin 1024, rX V c ⟨1024 * a.val + r.val, by omega⟩ k := by
    rw [show Ideal.ofBits FTy.f32 2139095040#32 = ⊤ by simp [Ideal.ofBits, Ideal.ieee]]
    refine eq_of_forall_le_iff fun b => ?_
    rw [Finset.le_fold_min]
    simp only [le_iInf_iff]
    constructor
    · rintro ⟨-, hb⟩ a r
      exact (l ⟨(1024 * a.val + r.val) % 16, by omega⟩ k b).mp (hb _ (Finset.mem_univ _)) ⟨1024 * a.val + r.val, by omega⟩ (Nat.zero_le _) (by show 1024 * a.val + r.val < 16384; omega) rfl
    · refine fun hb => ⟨le_top, fun p _ => (l p k b).mpr fun r _ _ _ => ?_⟩
      have := hb ⟨r.val / 1024, by omega⟩ ⟨r.val % 1024, by omega⟩
      have e : (⟨1024 * (r.val / 1024) + r.val % 1024, by omega⟩ : Fin 16384) = r := Fin.ext (by show 1024 * (r.val / 1024) + r.val % 1024 = r.val; omega)
      rw [← e]
      exact this
  rw [e1, e2]

/-- The zero points' array. -/
def zArr (c : Dev nD) : Vec Ideal S1x1536 .f32 := fun i => Quantised.zero (fun a r k => rX V c ⟨1024 * a.val + r.val, by omega⟩ k) (i 1)

/-- What the last point leaves in the zero points' block. -/
theorem last_at (c : Dev nD) (t : Fin cfg0.N) (ht : t.val = 15) (k : Fin 1536) : (outsAt0 V c t.val t.isLt).1 (ix2 0 k) = zArr V c (ix2 0 k) := by
  rw [outsAt0_C V c t (by omega) (by omega) (by omega)]
  dsimp only
  rw [out_C]
  obtain ⟨e0, e1⟩ := running V c (t.val - 1) (by have := t.isLt; omega) (by omega)
  rw [show 1024 * (t.val - 1) + 1024 = 1024 * t.val by omega] at e0 e1
  have f0 := max_over V c t (ms0_0 t) (hs0_0 t) _ e0
  have f1 := min_over V c t (ms0_0 t) (hs0_0 t) _ e1
  rw [show 1024 * t.val + 1024 = 16384 by omega] at f0 f1
  exact pay11_at V c _ _ f0 f1 k

theorem flushed_1 (c : Dev nD) (t : Fin cfg0.N) (hf : (cfg0.win 1).flush t = true) :
    (dat V c).flushed 1 t = ((cfg0.win 1).blk t).view.read (Elt Ideal) (zArr V c) := by
  have ht : t.val = 15 := by have := (flush0_1 t).mp hf; have := lt16 t; omega
  show (cfg0.win 1).cut (grid0.coords t) ((dat V c).after 1 t) = _
  rw [after0_1]
  obtain ⟨e0, e1⟩ := idx_1 t
  funext y
  obtain ⟨p, n, rfl⟩ : ∃ (p : Fin 1) (n : Fin 1536), y = ix2 p n := ⟨y 0, y 1, by funext a; match a with | ⟨0, _⟩ => rfl | ⟨1, _⟩ => rfl⟩
  obtain rfl : p = 0 := Subsingleton.elim _ _
  have h : ((cfg0.win 1).blk t).view.emb (ix2 (0 : Fin 1) n) = ix2 0 n := by
    funext a
    apply Fin.ext
    match a with
    | ⟨0, _⟩ => show win0_1.index t (0 : Fin 2) * 1 + 1 * 0 = 0; omega
    | ⟨1, _⟩ => show win0_1.index t (1 : Fin 2) * 1536 + 1 * n.val = n.val; omega
  show (outsAt0 V c t.val t.isLt).1 (ix2 0 n) = zArr V c (((cfg0.win 1).blk t).view.emb (ix2 (0 : Fin 1) n))
  rw [h]
  exact last_at V c t ht n

theorem mem_1 (t : Fin cfg0.N) (i : S1x1536.Idx) : i ∈ ((cfg0.win 1).blk t).view.set
    ↔ ∀ a : Fin 2, win0_1.index t a * S1x1536.size a ≤ (i a).val ∧ (i a).val < win0_1.index t a * S1x1536.size a + S1x1536.size a := by
  show i ∈ ((View.whole main_v1).slice (win0_1.rect t)).set ↔ _
  rw [View.set_slice_whole, Rect.mem_set_unit]
  exact Iff.rfl

/-- The zero points after the call. -/
theorem final_1 (c : Dev nD) : (dat V c).arrAt 1 cfg0.N = zArr V c :=
  (dat V c).arrAt_eq_of_cover 1 _ (fun t hf => flushed_1 V c t hf) (fun i =>
    ⟨⟨15, lt_of_lt_of_eq (by omega) N_0.symm⟩, (flush0_1 _).mpr rfl, by
    rw [mem_1]
    obtain ⟨e0, e1⟩ := idx_1 ⟨15, lt_of_lt_of_eq (by omega) N_0.symm⟩
    have h0 : (i 0).val < 1 := (i 0).isLt
    have h1 : (i 1).val < 1536 := (i 1).isLt
    intro a
    match a with
    | ⟨0, _⟩ => show win0_1.index _ (0 : Fin 2) * 1 ≤ (i 0).val ∧ (i 0).val < win0_1.index _ (0 : Fin 2) * 1 + 1; omega
    | ⟨1, _⟩ => show win0_1.index _ (1 : Fin 2) * 1536 ≤ (i 1).val ∧ (i 1).val < win0_1.index _ (1 : Fin 2) * 1536 + 1536; omega⟩)

end Cert.KernelIdeal.Stats

end
-- ==== Proof.KernelIdeal.Results.lean ====
/- The kernel's results, coordinate by coordinate, as functions of its arguments: the two calls' arrays read through the reshapes around
   them. -/
module

public import proofs.«01_k».proof.Proof.KernelIdeal.Run
public import proofs.«01_k».proof.Proof.KernelIdeal.Arrays
public import proofs.«01_k».proof.Proof.KernelIdeal.Midrange

@[expose] public section

set_option maxRecDepth 16384

noncomputable section

namespace Cert.KernelIdeal.Results

open Cert.KernelIdeal.Gen Cert.KernelIdeal.Run
open Idealize.ShloMosaic Idealize.ShloMosaic.TcCoe Idealize.ShloMosaic.Tactic Idealize.ShloMosaic.StableHlo

/-! ## The reshapes -/

section Reshapes
variable (X : Valuation τ sig (Elt Ideal))

theorem reshape_v0 : after hostOps0 X (Proc.devRef .tc main_v0)
    = (shapeCast S16384x1536 (X (Proc.devRef .tc main_arg0) : Vec Ideal S16x1024x1536 .bf16) shapeCasts_S16x1024x1536_S16384x1536 : Vec Ideal S16384x1536 .bf16) := by
  after_results
  rfl
theorem reshape_v2 : after hostOps1 X (Proc.devRef .tc main_v2)
    = (shapeCast S1x1536 (X (Proc.devRef .tc main_arg1) : Vec Ideal S1536 .f32) shapeCasts_S1536_S1x1536 : Vec Ideal S1x1536 .f32) := by
  after_results
  rfl
theorem reshape_v3 : after hostOps1 X (Proc.devRef .tc main_v3)
    = (shapeCast S1x8960 (X (Proc.devRef .tc main_arg5) : Vec Ideal S8960 .f32) shapeCasts_S8960_S1x8960 : Vec Ideal S1x8960 .f32) := by
  after_results
  rfl
theorem reshape_v5 : after hostOps2 X (Proc.devRef .tc main_v5)
    = (shapeCast S16x1024x8960 (X (Proc.devRef .tc main_v4_0) : Vec Ideal S16384x8960 .bf16) shapeCasts_S16384x8960_S16x1024x8960 : Vec Ideal S16x1024x8960 .bf16) := by
  after_results
  rfl
theorem reshape_v6 : after hostOps2 X (Proc.devRef .tc main_v6)
    = (shapeCast S8960 (X (Proc.devRef .tc main_v4_1) : Vec Ideal S1x8960 .f32) shapeCasts_S1x8960_S8960 : Vec Ideal S8960 .f32) := by
  after_results
  rfl
theorem reshape_v7 : after hostOps2 X (Proc.devRef .tc main_v7)
    = (shapeCast S1536 (X (Proc.devRef .tc main_v1) : Vec Ideal S1x1536 .f32) shapeCasts_S1x1536_S1536 : Vec Ideal S1536 .f32) := by
  after_results
  rfl
theorem reshape_v8 : after hostOps2 X (Proc.devRef .tc main_v8)
    = (shapeCast S16x1024x1536 (X (Proc.devRef .tc main_v4_2) : Vec Ideal S16384x1536 .i8) shapeCasts_S16384x1536_S16x1024x1536 : Vec Ideal S16x1024x1536 .i8) := by
  after_results
  rfl
end Reshapes

/-- Row `r` of item `a`, among all rows. -/
def row (a : Fin 16) (r : Fin 1024) : Fin 16384 := ⟨1024 * a.val + r.val, by omega⟩

section Cast
variable {F : FTy → Type} [FloatOps F] {e : EltTy}

theorem merge_x (v : Vec F S16x1024x1536 e) (a : Fin 16) (r : Fin 1024) (k : Fin 1536) :
    shapeCast S16384x1536 v shapeCasts_S16x1024x1536_S16384x1536 (ix2 (row a r) k) = v (ix3 a r k) := by
  unfold row
  pointwise []
theorem split_x (v : Vec F S16384x1536 e) (a : Fin 16) (r : Fin 1024) (k : Fin 1536) :
    shapeCast S16x1024x1536 v shapeCasts_S16384x1536_S16x1024x1536 (ix3 a r k) = v (ix2 (row a r) k) := by
  pointwise []
  exact congrArg (fun p => v (ix2 p k)) (Fin.ext (by show a.val * 1024 + r.val = 1024 * a.val + r.val; omega))
theorem split_y (v : Vec F S16384x8960 e) (a : Fin 16) (r : Fin 1024) (n : Fin 8960) :
    shapeCast S16x1024x8960 v shapeCasts_S16384x8960_S16x1024x8960 (ix3 a r n) = v (ix2 (row a r) n) := by
  pointwise []
  exact congrArg (fun p => v (ix2 p n)) (Fin.ext (by show a.val * 1024 + r.val = 1024 * a.val + r.val; omega))
theorem lift_k (v : Vec F S1536 e) (k : Fin 1536) : shapeCast S1x1536 v shapeCasts_S1536_S1x1536 (ix2 0 k) = v (ix1 k) := by
  pointwise []
theorem lift_n (v : Vec F S8960 e) (n : Fin 8960) : shapeCast S1x8960 v shapeCasts_S8960_S1x8960 (ix2 0 n) = v (ix1 n) := by
  pointwise []
theorem flat_k (v : Vec F S1x1536 e) (k : Fin 1536) : shapeCast S1536 v shapeCasts_S1x1536_S1536 (ix1 k) = v (ix2 0 k) := by
  pointwise []
theorem flat_n (v : Vec F S1x8960 e) (n : Fin 8960) : shapeCast S8960 v shapeCasts_S1x8960_S8960 (ix1 n) = v (ix2 0 n) := by
  pointwise []
end Cast

/-! ## The arguments and what the calls read -/

variable (m : (ℓ : Loc nD τ sig) → Buf (Elt Ideal) ℓ)

abbrev aX (c : Dev nD) : Vec Ideal S16x1024x1536 .bf16 := m ((c : Thread nD τ).loc main_arg0)
abbrev aS (c : Dev nD) : Vec Ideal S1536 .f32 := m ((c : Thread nD τ).loc main_arg1)
abbrev aXs (c : Dev nD) : Vec Ideal S1 .f32 := m ((c : Thread nD τ).loc main_arg2)
abbrev aW (c : Dev nD) : Vec Ideal S1536x8960 .i8 := m ((c : Thread nD τ).loc main_arg3)
abbrev aWs (c : Dev nD) : Vec Ideal S12x8960 .f32 := m ((c : Thread nD τ).loc main_arg4)
abbrev aBias (c : Dev nD) : Vec Ideal S8960 .f32 := m ((c : Thread nD τ).loc main_arg5)

/-- The zero points of the argument. -/
def Z (c : Dev nD) (k : Fin 1536) : EReal := Quantised.zero (fun a r k => aX m c (ix3 a r k)) k
/-- The weights of the arguments. -/
def W (c : Dev nD) (k : Fin 1536) (n : Fin 8960) : EReal := Quantised.weight (fun k n => aW m c (ix2 k n)) (fun g n => aWs m c (ix2 g n)) k n
/-- The corrected bias of the arguments. -/
def B (c : Dev nD) (n : Fin 8960) : EReal := Quantised.corr (Z m c) (fun k => aS m c (ix1 k)) (W m c) (fun n => aBias m c (ix1 n)) n

/-- The buffers as the first call finds them. -/
abbrev U1 (c : Dev nD) (b : Ref sig .tc) : Buf (Elt Ideal) ((c : Thread nD τ).loc b) := V1 m c (Proc.devRef .tc b)
/-- The buffers as the second call finds them. -/
abbrev U3 (c : Dev nD) (b : Ref sig .tc) : Buf (Elt Ideal) ((c : Thread nD τ).loc b) := V3 m (outs0 m) c (Proc.devRef .tc b)

theorem U1_arg (c : Dev nD) (b : Ref sig .tc) (h : b ∉ hostOps0_W) : U1 m c b = m ((c : Thread nD τ).loc b) := (V1_of m c b h).trans rfl
theorem U3_keep (c : Dev nD) (b : Ref sig .tc) (h1 : b ∉ hostOps1_W) (h2 : b ∉ ([main_v1] : List (Ref sig .tc))) : U3 m c b = U1 m c b :=
  (V3_of m (outs0 m) c b h1).trans (V2_of m (outs0 m) c b h2)

theorem v0_at (c : Dev nD) (a : Fin 16) (r : Fin 1024) (k : Fin 1536) : (U1 m c main_v0 : Vec Ideal S16384x1536 .bf16) (ix2 (row a r) k) = aX m c (ix3 a r k) :=
  (congrFun (reshape_v0 (V0 m c)) (ix2 (row a r) k)).trans (merge_x _ a r k)

theorem v1_eq (c : Dev nD) : U3 m c main_v1 = Stats.zArr (U1 m) c :=
  (V3_of m (outs0 m) c main_v1 (by decide)).trans ((Function.update_self (Proc.devRef (τ := τ) .tc main_v1) _ (V1 m c)).trans
    ((Pipeline.afterRegion_arr (Stats.dat (U1 m) c) (V1 m c) launch0.win.arr_inj 1).trans (Stats.final_1 (U1 m) c)))

theorem v1_at (c : Dev nD) (k : Fin 1536) : Stats.zArr (U1 m) c (ix2 0 k) = Z m c k := by
  show Quantised.zero _ k = Quantised.zero _ k
  congr 1
  funext a r k
  exact v0_at m c a r k

theorem rX_at (c : Dev nD) (a : Fin 16) (r : Fin 1024) (k : Fin 1536) : Main.rX (U3 m) c (row a r) k = aX m c (ix3 a r k) :=
  (congrFun (U3_keep m c main_v0 (by decide) (by decide)) (ix2 (row a r) k)).trans (v0_at m c a r k)
theorem rZ_eq (c : Dev nD) : Main.rZ (U3 m) c = Z m c :=
  funext fun k => (congrFun (v1_eq m c) (ix2 0 k)).trans (v1_at m c k)
theorem rXs_eq (c : Dev nD) : Main.rXs (U3 m) c = aXs m c (ix1 0) :=
  congrFun ((U3_keep m c main_arg2 (by decide) (by decide)).trans (U1_arg m c main_arg2 (by decide))) (ix1 0)
theorem rW_eq (c : Dev nD) : Main.rW (U3 m) c = W m c := by
  have e3 : U3 m c main_arg3 = aW m c := (U3_keep m c main_arg3 (by decide) (by decide)).trans (U1_arg m c main_arg3 (by decide))
  have e4 : U3 m c main_arg4 = aWs m c := (U3_keep m c main_arg4 (by decide) (by decide)).trans (U1_arg m c main_arg4 (by decide))
  unfold Main.rW W
  rw [e3, e4]
theorem rS_eq (c : Dev nD) : Main.rS (U3 m) c = fun k => aS m c (ix1 k) := funext fun k =>
  (congrFun (reshape_v2 (V2 m (outs0 m) c)) (ix2 0 k)).trans ((lift_k _ k).trans
    (congrFun ((V2_of m (outs0 m) c main_arg1 (by decide)).trans (U1_arg m c main_arg1 (by decide))) (ix1 k)))
theorem rBias_eq (c : Dev nD) : Main.rBias (U3 m) c = fun n => aBias m c (ix1 n) := funext fun n =>
  (congrFun (reshape_v3 (V2 m (outs0 m) c)) (ix2 0 n)).trans ((lift_n _ n).trans
    (congrFun ((V2_of m (outs0 m) c main_arg5 (by decide)).trans (U1_arg m c main_arg5 (by decide))) (ix1 n)))
theorem rCorr_eq (c : Dev nD) : Main.rCorr (U3 m) c = B m c := by
  funext n
  unfold Main.rCorr B
  rw [rZ_eq, rS_eq, rW_eq, rBias_eq]

/-! ## The results -/

theorem v4_0_eq (c : Dev nD) : V4 m (outs m) c (Proc.devRef .tc main_v4_0) = Main.yArr (U3 m) c :=
  (left1_eq m c _ (mem_uc main_v4_0 rfl)).symm.trans
    ((Pipeline.afterRegion_arr (Main.dat (U3 m) c) (V3 m (outs0 m) c) launch1.win.arr_inj 7).trans (Main.final_7 (U3 m) c))
theorem v4_1_eq (c : Dev nD) : V4 m (outs m) c (Proc.devRef .tc main_v4_1) = Main.cArr (U3 m) c :=
  (left1_eq m c _ (mem_uc main_v4_1 rfl)).symm.trans
    ((Pipeline.afterRegion_arr (Main.dat (U3 m) c) (V3 m (outs0 m) c) launch1.win.arr_inj 8).trans (Main.final_8 (U3 m) c))
theorem v4_2_eq (c : Dev nD) : V4 m (outs m) c (Proc.devRef .tc main_v4_2) = Main.qArr (U3 m) c :=
  (left1_eq m c _ (mem_uc main_v4_2 rfl)).symm.trans
    ((Pipeline.afterRegion_arr (Main.dat (U3 m) c) (V3 m (outs0 m) c) launch1.win.arr_inj 9).trans (Main.final_9 (U3 m) c))

/-- The product. -/
theorem y_at (c : Dev nD) (a : Fin 16) (r : Fin 1024) (n : Fin 8960) : ((V5 m (outs m) c (Proc.devRef .tc main_v5) : Vec Ideal S16x1024x8960 .bf16) (ix3 a r n) : EReal)
    = Quantised.row (aXs m c (ix1 0)) (fun k => aX m c (ix3 a r k)) (Z m c) (fun k => aS m c (ix1 k)) (W m c) (B m c) n := by
  refine (congrFun (reshape_v5 (V4 m (outs m) c)) (ix3 a r n)).trans ((split_y _ a r n).trans ((congrFun (v4_0_eq m c) (ix2 (row a r) n)).trans ?_))
  show Quantised.row _ (Main.rX (U3 m) c (row a r)) _ _ _ _ n = _
  rw [rXs_eq, rZ_eq, rS_eq, rW_eq, rCorr_eq, show Main.rX (U3 m) c (row a r) = fun k => aX m c (ix3 a r k) from funext fun k => rX_at m c a r k]

/-- The corrected bias. -/
theorem b_at (c : Dev nD) (n : Fin 8960) : ((V5 m (outs m) c (Proc.devRef .tc main_v6) : Vec Ideal S8960 .f32) (ix1 n) : EReal) = B m c n := by
  refine (congrFun (reshape_v6 (V4 m (outs m) c)) (ix1 n)).trans ((flat_n _ n).trans ((congrFun (v4_1_eq m c) (ix2 0 n)).trans ?_))
  exact congrFun (rCorr_eq m c) n

/-- The zero points. -/
theorem z_at (c : Dev nD) (k : Fin 1536) : ((V5 m (outs m) c (Proc.devRef .tc main_v7) : Vec Ideal S1536 .f32) (ix1 k) : EReal) = Z m c k := by
  refine (congrFun (reshape_v7 (V4 m (outs m) c)) (ix1 k)).trans ((flat_k _ k).trans
    ((congrFun ((V4_of m (outs m) c main_v1 (by decide)).trans (v1_eq m c)) (ix2 0 k)).trans (v1_at m c k)))

/-- The codes. -/
theorem q_at (c : Dev nD) (a : Fin 16) (r : Fin 1024) (k : Fin 1536) : (V5 m (outs m) c (Proc.devRef .tc main_v8) : Vec Ideal S16x1024x1536 .i8) (ix3 a r k)
    = Ideal.fptosi 8 (Quantised.code (aXs m c (ix1 0)) (aX m c (ix3 a r k)) (Z m c k) (aS m c (ix1 k))) := by
  refine (congrFun (reshape_v8 (V4 m (outs m) c)) (ix3 a r k)).trans ((split_x _ a r k).trans ((congrFun (v4_2_eq m c) (ix2 (row a r) k)).trans ?_))
  show Ideal.fptosi 8 (Quantised.code _ (Main.rX (U3 m) c (row a r) k) (Main.rZ (U3 m) c k) (Main.rS (U3 m) c k)) = _
  rw [rXs_eq, rZ_eq, rS_eq, rX_at]

end Cert.KernelIdeal.Results

end
-- ==== Proof.ReferenceIdeal.Values.lean ====
/- The reference's results, coordinate by coordinate. -/
module

public import proofs.«01_k».proof.Proof.Gen.ReferenceIdeal.Frame
public import proofs.«01_k».proof.Proof.Quantised
public import Idealize.ShloMosaic.Lib.Pointwise

@[expose] public section

set_option maxRecDepth 16384

noncomputable section

namespace Cert.ReferenceIdeal.Values

open Cert.ReferenceIdeal Cert.ReferenceIdeal.Gen
open Idealize.ShloMosaic Idealize.ShloMosaic.TcCoe Idealize.ShloMosaic.Tactic

/-- A maximum folded from minus infinity is the supremum. -/
theorem fold_top {ι : Type} (S : Finset ι) (f : ι → EReal) :
    S.fold (FloatOps.maximumf (F := Ideal) (φ := .f32)) (FloatOps.ofBits (F := Ideal) .f32 0xFF800000#32) f = ⨆ i ∈ S, f i := by
  have e : (FloatOps.ofBits (F := Ideal) .f32 0xFF800000#32 : EReal) = ⊥ := by
    show Ideal.ofBits .f32 4286578688#32 = ⊥
    simp [Ideal.ofBits, Ideal.ieee]
  refine eq_of_forall_ge_iff fun b => ?_
  refine (Finset.fold_max_le (f := f) b).trans ?_
  simp only [iSup_le_iff]
  exact ⟨fun h => h.2, fun h => ⟨e.le.trans bot_le, h⟩⟩

/-- A minimum folded from infinity is the infimum. -/
theorem fold_bottom {ι : Type} (S : Finset ι) (f : ι → EReal) :
    S.fold (FloatOps.minimumf (F := Ideal) (φ := .f32)) (FloatOps.ofBits (F := Ideal) .f32 0x7F800000#32) f = ⨅ i ∈ S, f i := by
  have e : (FloatOps.ofBits (F := Ideal) .f32 0x7F800000#32 : EReal) = ⊤ := by
    show Ideal.ofBits .f32 2139095040#32 = ⊤
    simp [Ideal.ofBits, Ideal.ieee]
  refine eq_of_forall_le_iff fun b => ?_
  refine (Finset.le_fold_min (f := f) b).trans ?_
  simp only [le_iInf_iff]
  exact ⟨fun h => h.2, fun h => ⟨le_top.trans e.ge, h⟩⟩

/-- An entry is reduced to its channel. -/
theorem drop_iff (i : S16x1024x1536.Idx) (k : Fin 1536) : (reduces_S16x1024x1536_S1536.drop i = ix1 k) ↔ i 2 = k := by
  have h := reduces_S16x1024x1536_S1536.drop_apply_val_of_eq i 0 2
  constructor
  · intro e
    have e' := congrArg (fun j : S1536.Idx => (j 0).val) e
    exact Fin.ext (h.symm.trans e')
  · intro e
    funext a
    match a with
    | ⟨0, _⟩ => exact Fin.ext (h.trans (congrArg Fin.val e))

/-- The largest entry of a channel. -/
theorem top_at (v : FVec Ideal S16x1024x1536 .f32) (hφ : FKind.Formats .f32) (hacc : 0xFF800000#32 = FKind.maximumf.neutral .f32 hφ) (k : Fin 1536) :
    (multiReduction (F := Ideal) .maximumf [0, 1] S1536 v 0xFF800000#32 reduces_S16x1024x1536_S1536 hφ hacc (ix1 k) : EReal)
      = ⨆ a, ⨆ r, (v (ix3 a r k) : EReal) := by
  refine (multiReduction_maximumf_eq_fold v _ reduces_S16x1024x1536_S1536 hφ hacc (ix1 k)).trans ?_
  refine (fold_top _ _).trans (eq_of_forall_ge_iff fun b => ?_)
  simp only [iSup_le_iff, Finset.mem_filter, Finset.mem_univ, true_and, drop_iff]
  constructor
  · exact fun h a r => h (ix3 a r k) rfl
  · intro h i hi
    have e : i = ix3 (i 0) (i 1) k := by subst hi; funext a; match a with | ⟨0, _⟩ => rfl | ⟨1, _⟩ => rfl | ⟨2, _⟩ => rfl
    rw [e]
    exact h _ _

/-- The smallest entry of a channel. -/
theorem bottom_at (v : FVec Ideal S16x1024x1536 .f32) (hφ : FKind.Formats .f32) (hacc : 0x7F800000#32 = FKind.minimumf.neutral .f32 hφ) (k : Fin 1536) :
    (multiReduction (F := Ideal) .minimumf [0, 1] S1536 v 0x7F800000#32 reduces_S16x1024x1536_S1536 hφ hacc (ix1 k) : EReal)
      = ⨅ a, ⨅ r, (v (ix3 a r k) : EReal) := by
  refine (multiReduction_minimumf_eq_fold v _ reduces_S16x1024x1536_S1536 hφ hacc (ix1 k)).trans ?_
  refine (fold_bottom _ _).trans (eq_of_forall_le_iff fun b => ?_)
  simp only [le_iInf_iff, Finset.mem_filter, Finset.mem_univ, true_and, drop_iff]
  constructor
  · exact fun h a r => h (ix3 a r k) rfl
  · intro h i hi
    have e : i = ix3 (i 0) (i 1) k := by subst hi; funext a; match a with | ⟨0, _⟩ => rfl | ⟨1, _⟩ => rfl | ⟨2, _⟩ => rfl
    rw [e]
    exact h _ _

/-- Half the sum, entry by entry. -/
theorem half_at (u v : FVec Ideal S1536 .f32) (k : Fin 1536) :
    (divf (addf u v) (broadcast S1536 (Scalar.ofBits (F := Ideal) .f32 0x40000000#32)) (ix1 k) : EReal)
      = Ideal.div ((u (ix1 k) : EReal) + v (ix1 k)) (Ideal.ofBits .f32 0x40000000#32) := rfl

section Body
variable (x : Vec Ideal S16x1024x1536 .bf16) (s : Vec Ideal S1536 .f32) (xs : Vec Ideal S1 .f32) (w : Vec Ideal S1536x8960 .i8)
  (ws : Vec Ideal S12x8960 .f32) (bias : Vec Ideal S8960 .f32)

/-- The zero points. -/
abbrev Z (k : Fin 1536) : EReal := Quantised.zero (fun a r k => x (ix3 a r k)) k
/-- The weights. -/
abbrev W (k : Fin 1536) (n : Fin 8960) : EReal := Quantised.weight (fun k n => w (ix2 k n)) (fun g n => ws (ix2 g n)) k n
/-- The corrected bias. -/
abbrev B (n : Fin 8960) : EReal := Quantised.corr (Z x) (fun k => s (ix1 k)) (W w ws) (fun n => bias (ix1 n)) n

/-- The reference's zero points. -/
theorem zero_at (k : Fin 1536) : (k0_pay3 (F := Ideal) x (ix1 k) : EReal) = Z x k := by
  unfold k0_pay3
  refine (half_at _ _ k).trans ?_
  exact congrArg₂ (fun u v : EReal => Ideal.div (u + v) (Ideal.ofBits .f32 0x40000000#32)) (top_at (k0_pay2 x) _ _ k) (bottom_at (k0_pay2 x) _ _ k)

/-- The reference's weights: the stored byte times its group's scale. -/
theorem weight_at (k : Fin 1536) (n : Fin 8960) : (k0_pay5 (F := Ideal) w ws (ix2 k n) : EReal) = W w ws k n := by
  unfold W Quantised.weight
  pointwise [k0_pay5]
  rfl

/-- The reference's codes. -/
theorem code_at (a : Fin 16) (r : Fin 1024) (k : Fin 1536) :
    k0_pay4 (F := Ideal) x s xs (ix3 a r k) = Ideal.fptosi 8 (Quantised.code (xs (ix1 0)) (x (ix3 a r k)) (Z x k) (s (ix1 k))) := by
  rw [← zero_at]
  pointwise [k0_pay4, k0_pay2, Quantised.code]
  rfl

/-- The reference's corrected bias. -/
theorem corr_at (n : Fin 8960) : (k0_pay6 (F := Ideal) x s w ws bias (ix1 n) : EReal) = B x s w ws bias n := by
  unfold B Quantised.corr
  simp only [← zero_at, ← weight_at]
  pointwise [k0_pay6]

/-- The reference's product. -/
theorem y_at (a : Fin 16) (r : Fin 1024) (n : Fin 8960) :
    (k0_pay1 (F := Ideal) (k0_pay6 x s w ws bias) (k0_pay7 x s xs w ws) (ix3 a r n) : EReal)
      = Quantised.row (xs (ix1 0)) (fun k => x (ix3 a r k)) (Z x) (fun k => s (ix1 k)) (W w ws) (B x s w ws bias) n := by
  unfold Quantised.row
  have h : ∀ k, Quantised.code (xs (ix1 0)) (x (ix3 a r k)) (Z x k) (s (ix1 k)) = (((k0_pay4 (F := Ideal) x s xs (ix3 a r k)).toInt : ℝ) : EReal) := fun k => by
    rw [code_at, Quantised.code_byte]
  simp only [← corr_at, ← weight_at, h]
  pointwise [k0_pay1, k0_pay7]
  rfl

end Body

end Cert.ReferenceIdeal.Values

end
-- ==== Proof.ReferenceIdeal.Final.lean ====
/- The reference's four result arrays in full: its one call has no grid, so every window is its whole array. -/
module

public import proofs.«01_k».proof.Proof.ReferenceIdeal.Values

@[expose] public section

set_option maxRecDepth 16384

noncomputable section

namespace Cert.ReferenceIdeal.Values

open Cert.ReferenceIdeal Cert.ReferenceIdeal.Gen
open Idealize.ShloMosaic Idealize.ShloMosaic.TcCoe Idealize.ShloMosaic.Tactic

variable (m : (ℓ : Loc nD τ sig) → Buf (Elt Ideal) ℓ)

/-! ## The windows are whole arrays -/

theorem emb_0 (t : Fin cfg0.N) (i : S16x1024x1536.Idx) : ((cfg0.win 0).blk t).view.emb i = i := by
  have e : ∀ (t : Fin cfg0.N) (a : Fin 3), win0_0.index t a = 0 := (by decide +kernel : ∀ (t : Fin grid0.N) (a : Fin 3), win0_0.index t a = 0)
  funext a
  apply Fin.ext
  show win0_0.index t a * S16x1024x1536.size a + 1 * (i a).val = (i a).val
  rw [e]
  omega
theorem emb_1 (t : Fin cfg0.N) (i : S1536.Idx) : ((cfg0.win 1).blk t).view.emb i = i := by
  have e : ∀ (t : Fin cfg0.N) (a : Fin 1), win0_1.index t a = 0 := (by decide +kernel : ∀ (t : Fin grid0.N) (a : Fin 1), win0_1.index t a = 0)
  funext a
  apply Fin.ext
  show win0_1.index t a * S1536.size a + 1 * (i a).val = (i a).val
  rw [e]
  omega
theorem emb_2 (t : Fin cfg0.N) (i : S1.Idx) : ((cfg0.win 2).blk t).view.emb i = i := by
  have e : ∀ (t : Fin cfg0.N) (a : Fin 1), win0_2.index t a = 0 := (by decide +kernel : ∀ (t : Fin grid0.N) (a : Fin 1), win0_2.index t a = 0)
  funext a
  apply Fin.ext
  show win0_2.index t a * S1.size a + 1 * (i a).val = (i a).val
  rw [e]
  omega
theorem emb_3 (t : Fin cfg0.N) (i : S1536x8960.Idx) : ((cfg0.win 3).blk t).view.emb i = i := by
  have e : ∀ (t : Fin cfg0.N) (a : Fin 2), win0_3.index t a = 0 := (by decide +kernel : ∀ (t : Fin grid0.N) (a : Fin 2), win0_3.index t a = 0)
  funext a
  apply Fin.ext
  show win0_3.index t a * S1536x8960.size a + 1 * (i a).val = (i a).val
  rw [e]
  omega
theorem emb_4 (t : Fin cfg0.N) (i : S12x8960.Idx) : ((cfg0.win 4).blk t).view.emb i = i := by
  have e : ∀ (t : Fin cfg0.N) (a : Fin 2), win0_4.index t a = 0 := (by decide +kernel : ∀ (t : Fin grid0.N) (a : Fin 2), win0_4.index t a = 0)
  funext a
  apply Fin.ext
  show win0_4.index t a * S12x8960.size a + 1 * (i a).val = (i a).val
  rw [e]
  omega
theorem emb_5 (t : Fin cfg0.N) (i : S8960.Idx) : ((cfg0.win 5).blk t).view.emb i = i := by
  have e : ∀ (t : Fin cfg0.N) (a : Fin 1), win0_5.index t a = 0 := (by decide +kernel : ∀ (t : Fin grid0.N) (a : Fin 1), win0_5.index t a = 0)
  funext a
  apply Fin.ext
  show win0_5.index t a * S8960.size a + 1 * (i a).val = (i a).val
  rw [e]
  omega
theorem emb_6 (t : Fin cfg0.N) (i : S16x1024x8960.Idx) : ((cfg0.win 6).blk t).view.emb i = i := by
  have e : ∀ (t : Fin cfg0.N) (a : Fin 3), win0_6.index t a = 0 := (by decide +kernel : ∀ (t : Fin grid0.N) (a : Fin 3), win0_6.index t a = 0)
  funext a
  apply Fin.ext
  show win0_6.index t a * S16x1024x8960.size a + 1 * (i a).val = (i a).val
  rw [e]
  omega
theorem emb_7 (t : Fin cfg0.N) (i : S8960.Idx) : ((cfg0.win 7).blk t).view.emb i = i := by
  have e : ∀ (t : Fin cfg0.N) (a : Fin 1), win0_7.index t a = 0 := (by decide +kernel : ∀ (t : Fin grid0.N) (a : Fin 1), win0_7.index t a = 0)
  funext a
  apply Fin.ext
  show win0_7.index t a * S8960.size a + 1 * (i a).val = (i a).val
  rw [e]
  omega
theorem emb_8 (t : Fin cfg0.N) (i : S1536.Idx) : ((cfg0.win 8).blk t).view.emb i = i := by
  have e : ∀ (t : Fin cfg0.N) (a : Fin 1), win0_8.index t a = 0 := (by decide +kernel : ∀ (t : Fin grid0.N) (a : Fin 1), win0_8.index t a = 0)
  funext a
  apply Fin.ext
  show win0_8.index t a * S1536.size a + 1 * (i a).val = (i a).val
  rw [e]
  omega
theorem emb_9 (t : Fin cfg0.N) (i : S16x1024x1536.Idx) : ((cfg0.win 9).blk t).view.emb i = i := by
  have e : ∀ (t : Fin cfg0.N) (a : Fin 3), win0_9.index t a = 0 := (by decide +kernel : ∀ (t : Fin grid0.N) (a : Fin 3), win0_9.index t a = 0)
  funext a
  apply Fin.ext
  show win0_9.index t a * S16x1024x1536.size a + 1 * (i a).val = (i a).val
  rw [e]
  omega

theorem block_0 (c : Dev nD) (t : Fin cfg0.N) : (iblk m c 0 t : Vec Ideal S16x1024x1536 .bf16) = V m c main_arg0 :=
  funext fun i => congrArg (V m c main_arg0) (emb_0 t i)
theorem block_1 (c : Dev nD) (t : Fin cfg0.N) : (iblk m c 1 t : Vec Ideal S1536 .f32) = V m c main_arg1 :=
  funext fun i => congrArg (V m c main_arg1) (emb_1 t i)
theorem block_2 (c : Dev nD) (t : Fin cfg0.N) : (iblk m c 2 t : Vec Ideal S1 .f32) = V m c main_arg2 :=
  funext fun i => congrArg (V m c main_arg2) (emb_2 t i)
theorem block_3 (c : Dev nD) (t : Fin cfg0.N) : (iblk m c 3 t : Vec Ideal S1536x8960 .i8) = V m c main_arg3 :=
  funext fun i => congrArg (V m c main_arg3) (emb_3 t i)
theorem block_4 (c : Dev nD) (t : Fin cfg0.N) : (iblk m c 4 t : Vec Ideal S12x8960 .f32) = V m c main_arg4 :=
  funext fun i => congrArg (V m c main_arg4) (emb_4 t i)
theorem block_5 (c : Dev nD) (t : Fin cfg0.N) : (iblk m c 5 t : Vec Ideal S8960 .f32) = V m c main_arg5 :=
  funext fun i => congrArg (V m c main_arg5) (emb_5 t i)

/-! ## The arguments -/

abbrev aX (c : Dev nD) : Vec Ideal S16x1024x1536 .bf16 := V m c main_arg0
abbrev aS (c : Dev nD) : Vec Ideal S1536 .f32 := V m c main_arg1
abbrev aXs (c : Dev nD) : Vec Ideal S1 .f32 := V m c main_arg2
abbrev aW (c : Dev nD) : Vec Ideal S1536x8960 .i8 := V m c main_arg3
abbrev aWs (c : Dev nD) : Vec Ideal S12x8960 .f32 := V m c main_arg4
abbrev aBias (c : Dev nD) : Vec Ideal S8960 .f32 := V m c main_arg5

/-! ## The result arrays -/

def yArr (c : Dev nD) : Vec Ideal S16x1024x8960 .bf16 := k0_pay1 (k0_pay6 (aX m c) (aS m c) (aW m c) (aWs m c) (aBias m c)) (k0_pay7 (aX m c) (aS m c) (aXs m c) (aW m c) (aWs m c))
def bArr (c : Dev nD) : Vec Ideal S8960 .f32 := k0_pay6 (aX m c) (aS m c) (aW m c) (aWs m c) (aBias m c)
def zArr (c : Dev nD) : Vec Ideal S1536 .f32 := k0_pay3 (aX m c)
def qArr (c : Dev nD) : Vec Ideal S16x1024x1536 .i8 := k0_pay4 (aX m c) (aS m c) (aXs m c)

theorem zero1 : (![0] : Fin 1 → ℕ) = 0 := by funext a; match a with | ⟨0, _⟩ => rfl
theorem zero2 : (![0, 0] : Fin 2 → ℕ) = 0 := by funext a; match a with | ⟨0, _⟩ => rfl | ⟨1, _⟩ => rfl
theorem zero3 : (![0, 0, 0] : Fin 3 → ℕ) = 0 := by funext a; match a with | ⟨0, _⟩ => rfl | ⟨1, _⟩ => rfl | ⟨2, _⟩ => rfl

theorem ld_0 (v : Vec Ideal S16x1024x1536 .bf16) : View.ld v r0_0 = v :=
  View.ld_unit_zero (Val := Elt Ideal) (S := S16x1024x1536) (e := .bf16) zero3 inb_S16x1024x1536_S16x1024x1536_0_0_0 v
theorem ld_1 (v : Vec Ideal S1536 .f32) : View.ld v r0_1 = v :=
  View.ld_unit_zero (Val := Elt Ideal) (S := S1536) (e := .f32) zero1 inb_S1536_S1536_0 v
theorem ld_2 (v : Vec Ideal S1 .f32) : View.ld v r0_2 = v :=
  View.ld_unit_zero (Val := Elt Ideal) (S := S1) (e := .f32) zero1 inb_S1_S1_0 v
theorem ld_3 (v : Vec Ideal S1536x8960 .i8) : View.ld v r0_3 = v :=
  View.ld_unit_zero (Val := Elt Ideal) (S := S1536x8960) (e := .i8) zero2 inb_S1536x8960_S1536x8960_0_0 v
theorem ld_4 (v : Vec Ideal S12x8960 .f32) : View.ld v r0_4 = v :=
  View.ld_unit_zero (Val := Elt Ideal) (S := S12x8960) (e := .f32) zero2 inb_S12x8960_S12x8960_0_0 v
theorem ld_5 (v : Vec Ideal S8960 .f32) : View.ld v r0_5 = v :=
  View.ld_unit_zero (Val := Elt Ideal) (S := S8960) (e := .f32) zero1 inb_S8960_S8960_0 v

theorem out_6 (c : Dev nD) (t : Fin cfg0.N) :
    out0_6 (iblk m c 0 t) (iblk m c 1 t) (iblk m c 2 t) (iblk m c 3 t) (iblk m c 4 t) (iblk m c 5 t) = yArr m c := by
  rw [block_0, block_1, block_2, block_3, block_4, block_5]
  unfold out0_6 k0_pay8 yArr
  rw [View.canon_unit_zero zero3]
  simp only [ld_0, ld_1, ld_2, ld_3, ld_4, ld_5]

theorem final_6 (c : Dev nD) : (dats m 0 c).arrAt 6 cfg0.N = yArr m c :=
  (dats m 0 c).arrAt_eq_of_cover 6 _ (fun t _ => by
    show (cfg0.win 6).cut (grid0.coords t) ((dats m 0 c).after 6 t) = _
    rw [after0_6, out_6]
    funext i
    exact (congrArg (yArr m c) (emb_6 t i)).symm) (fun i => ⟨t0_0, flush0_6 _, by
    have e : ∀ (t : Fin cfg0.N) (a : Fin 3), win0_6.index t a = 0 := (by decide +kernel : ∀ (t : Fin grid0.N) (a : Fin 3), win0_6.index t a = 0)
    show i ∈ ((View.whole main_v0_0).slice (win0_6.rect t0_0)).set
    rw [View.set_slice_whole, Rect.mem_set_unit]
    intro a
    have h : (i a).val < S16x1024x8960.size a := (i a).isLt
    show win0_6.index t0_0 a * S16x1024x8960.size a ≤ (i a).val ∧ (i a).val < win0_6.index t0_0 a * S16x1024x8960.size a + S16x1024x8960.size a
    rw [e]
    omega⟩)

theorem out_7 (c : Dev nD) (t : Fin cfg0.N) :
    out0_7 (iblk m c 0 t) (iblk m c 1 t) (iblk m c 2 t) (iblk m c 3 t) (iblk m c 4 t) (iblk m c 5 t) = bArr m c := by
  rw [block_0, block_1, block_2, block_3, block_4, block_5]
  unfold out0_7 k0_pay8 bArr
  rw [View.canon_unit_zero zero1]
  simp only [ld_0, ld_1, ld_2, ld_3, ld_4, ld_5]

theorem final_7 (c : Dev nD) : (dats m 0 c).arrAt 7 cfg0.N = bArr m c :=
  (dats m 0 c).arrAt_eq_of_cover 7 _ (fun t _ => by
    show (cfg0.win 7).cut (grid0.coords t) ((dats m 0 c).after 7 t) = _
    rw [after0_7, out_7]
    funext i
    exact (congrArg (bArr m c) (emb_7 t i)).symm) (fun i => ⟨t0_0, flush0_7 _, by
    have e : ∀ (t : Fin cfg0.N) (a : Fin 1), win0_7.index t a = 0 := (by decide +kernel : ∀ (t : Fin grid0.N) (a : Fin 1), win0_7.index t a = 0)
    show i ∈ ((View.whole main_v0_1).slice (win0_7.rect t0_0)).set
    rw [View.set_slice_whole, Rect.mem_set_unit]
    intro a
    have h : (i a).val < S8960.size a := (i a).isLt
    show win0_7.index t0_0 a * S8960.size a ≤ (i a).val ∧ (i a).val < win0_7.index t0_0 a * S8960.size a + S8960.size a
    rw [e]
    omega⟩)

theorem out_8 (c : Dev nD) (t : Fin cfg0.N) :
    out0_8 (iblk m c 0 t) (iblk m c 1 t) (iblk m c 2 t) (iblk m c 3 t) (iblk m c 4 t) (iblk m c 5 t) = zArr m c := by
  rw [block_0, block_1, block_2, block_3, block_4, block_5]
  unfold out0_8 zArr
  rw [View.canon_unit_zero zero1]
  simp only [ld_0, ld_1, ld_2, ld_3, ld_4, ld_5]

theorem final_8 (c : Dev nD) : (dats m 0 c).arrAt 8 cfg0.N = zArr m c :=
  (dats m 0 c).arrAt_eq_of_cover 8 _ (fun t _ => by
    show (cfg0.win 8).cut (grid0.coords t) ((dats m 0 c).after 8 t) = _
    rw [after0_8, out_8]
    funext i
    exact (congrArg (zArr m c) (emb_8 t i)).symm) (fun i => ⟨t0_0, flush0_8 _, by
    have e : ∀ (t : Fin cfg0.N) (a : Fin 1), win0_8.index t a = 0 := (by decide +kernel : ∀ (t : Fin grid0.N) (a : Fin 1), win0_8.index t a = 0)
    show i ∈ ((View.whole main_v0_2).slice (win0_8.rect t0_0)).set
    rw [View.set_slice_whole, Rect.mem_set_unit]
    intro a
    have h : (i a).val < S1536.size a := (i a).isLt
    show win0_8.index t0_0 a * S1536.size a ≤ (i a).val ∧ (i a).val < win0_8.index t0_0 a * S1536.size a + S1536.size a
    rw [e]
    omega⟩)

theorem out_9 (c : Dev nD) (t : Fin cfg0.N) :
    out0_9 (iblk m c 0 t) (iblk m c 1 t) (iblk m c 2 t) (iblk m c 3 t) (iblk m c 4 t) (iblk m c 5 t) = qArr m c := by
  rw [block_0, block_1, block_2, block_3, block_4, block_5]
  unfold out0_9 qArr
  rw [View.canon_unit_zero zero3]
  simp only [ld_0, ld_1, ld_2, ld_3, ld_4, ld_5]

theorem final_9 (c : Dev nD) : (dats m 0 c).arrAt 9 cfg0.N = qArr m c :=
  (dats m 0 c).arrAt_eq_of_cover 9 _ (fun t _ => by
    show (cfg0.win 9).cut (grid0.coords t) ((dats m 0 c).after 9 t) = _
    rw [after0_9, out_9]
    funext i
    exact (congrArg (qArr m c) (emb_9 t i)).symm) (fun i => ⟨t0_0, flush0_9 _, by
    have e : ∀ (t : Fin cfg0.N) (a : Fin 3), win0_9.index t a = 0 := (by decide +kernel : ∀ (t : Fin grid0.N) (a : Fin 3), win0_9.index t a = 0)
    show i ∈ ((View.whole main_v0_3).slice (win0_9.rect t0_0)).set
    rw [View.set_slice_whole, Rect.mem_set_unit]
    intro a
    have h : (i a).val < S16x1024x1536.size a := (i a).isLt
    show win0_9.index t0_0 a * S16x1024x1536.size a ≤ (i a).val ∧ (i a).val < win0_9.index t0_0 a * S16x1024x1536.size a + S16x1024x1536.size a
    rw [e]
    omega⟩)

end Cert.ReferenceIdeal.Values

end
-- ==== Proof.Algebraic.lean ====
/- The kernel and the reference end with equal results: each result array of either is, coordinate by coordinate, the same expression in the
   arguments. -/
module

public import proofs.«01_k».proof.Defs
public import proofs.«01_k».proof.Proof.KernelIdeal.Results
public import proofs.«01_k».proof.Proof.ReferenceIdeal.Final

@[expose] public section

set_option maxRecDepth 16384

noncomputable section

namespace Cert.Algebraic

open Idealize.ShloMosaic Idealize.ShloMosaic.TcCoe Idealize.ShloMosaic.Tactic Idealize.SL.Sem
open Cert.KernelIdeal.Run (outs run_main mem_uc)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the six arguments. -/
structure Agree (c : Dev Cert.KernelIdeal.nD) : Prop where
  x : Cert.ReferenceIdeal.Values.aX m' c = Cert.KernelIdeal.Results.aX m c
  s : Cert.ReferenceIdeal.Values.aS m' c = Cert.KernelIdeal.Results.aS m c
  xs : Cert.ReferenceIdeal.Values.aXs m' c = Cert.KernelIdeal.Results.aXs m c
  w : Cert.ReferenceIdeal.Values.aW m' c = Cert.KernelIdeal.Results.aW m c
  ws : Cert.ReferenceIdeal.Values.aWs m' c = Cert.KernelIdeal.Results.aWs m c
  bias : Cert.ReferenceIdeal.Values.aBias m' c = Cert.KernelIdeal.Results.aBias m c

variable {m m'}

theorem y_eq (c : Dev Cert.KernelIdeal.nD) (h : Agree m m' c) :
    (Cert.ReferenceIdeal.Values.yArr m' c : Vec Ideal Cert.KernelIdeal.S16x1024x8960 .bf16)
      = Cert.KernelIdeal.Gen.V5 m (outs m) c (Proc.devRef .tc Cert.KernelIdeal.main_v5) := by
  funext i
  obtain ⟨a, r, n, rfl⟩ : ∃ (a : Fin 16) (r : Fin 1024) (n : Fin 8960), i = ix3 a r n :=
    ⟨i 0, i 1, i 2, by funext a; match a with | ⟨0, _⟩ => rfl | ⟨1, _⟩ => rfl | ⟨2, _⟩ => rfl⟩
  refine (Cert.ReferenceIdeal.Values.y_at _ _ _ _ _ _ a r n).trans ?_
  rw [h.x, h.s, h.xs, h.w, h.ws, h.bias]
  exact (Cert.KernelIdeal.Results.y_at m c a r n).symm

theorem b_eq (c : Dev Cert.KernelIdeal.nD) (h : Agree m m' c) :
    (Cert.ReferenceIdeal.Values.bArr m' c : Vec Ideal Cert.KernelIdeal.S8960 .f32)
      = Cert.KernelIdeal.Gen.V5 m (outs m) c (Proc.devRef .tc Cert.KernelIdeal.main_v6) := by
  funext i
  obtain ⟨n, rfl⟩ : ∃ (n : Fin 8960), i = ix1 n := ⟨i 0, by funext a; match a with | ⟨0, _⟩ => rfl⟩
  refine (Cert.ReferenceIdeal.Values.corr_at _ _ _ _ _ n).trans ?_
  rw [h.x, h.s, h.w, h.ws, h.bias]
  exact (Cert.KernelIdeal.Results.b_at m c n).symm

theorem z_eq (c : Dev Cert.KernelIdeal.nD) (h : Agree m m' c) :
    (Cert.ReferenceIdeal.Values.zArr m' c : Vec Ideal Cert.KernelIdeal.S1536 .f32)
      = Cert.KernelIdeal.Gen.V5 m (outs m) c (Proc.devRef .tc Cert.KernelIdeal.main_v7) := by
  funext i
  obtain ⟨k, rfl⟩ : ∃ (k : Fin 1536), i = ix1 k := ⟨i 0, by funext a; match a with | ⟨0, _⟩ => rfl⟩
  refine (Cert.ReferenceIdeal.Values.zero_at _ k).trans ?_
  rw [h.x]
  exact (Cert.KernelIdeal.Results.z_at m c k).symm

theorem q_eq (c : Dev Cert.KernelIdeal.nD) (h : Agree m m' c) :
    (Cert.ReferenceIdeal.Values.qArr m' c : Vec Ideal Cert.KernelIdeal.S16x1024x1536 .i8)
      = Cert.KernelIdeal.Gen.V5 m (outs m) c (Proc.devRef .tc Cert.KernelIdeal.main_v8) := by
  funext i
  obtain ⟨a, r, k, rfl⟩ : ∃ (a : Fin 16) (r : Fin 1024) (k : Fin 1536), i = ix3 a r k :=
    ⟨i 0, i 1, i 2, by funext a; match a with | ⟨0, _⟩ => rfl | ⟨1, _⟩ => rfl | ⟨2, _⟩ => rfl⟩
  refine (Cert.ReferenceIdeal.Values.code_at _ _ _ a r k).trans ?_
  rw [h.x, h.s, h.xs]
  exact (Cert.KernelIdeal.Results.q_at m c a r k).symm

/-- Equal results, and the arguments of both as launched. -/
theorem algebraic : Cert.algebraic_KernelIdeal_ReferenceIdeal (hKernelIdeal := Cert.KernelIdeal.Gen.facts) (hReferenceIdeal := Cert.ReferenceIdeal.Gen.facts) := by
  intro m g m' g' _ hargs
  have hag : ∀ c, Agree m m' c := fun c => by
    obtain ⟨h0, h1, h2, h3, h4, h5⟩ := hargs c
    exact ⟨h0, h1, h2, h3, h4, h5⟩
  refine ⟨fun c => Cert.KernelIdeal.Gen.V5 m (outs m) c (Proc.devRef .tc Cert.KernelIdeal.main_v5), fun c => Cert.KernelIdeal.Gen.V5 m (outs m) c (Proc.devRef .tc Cert.KernelIdeal.main_v6),
    fun c => Cert.KernelIdeal.Gen.V5 m (outs m) c (Proc.devRef .tc Cert.KernelIdeal.main_v7), fun c => Cert.KernelIdeal.Gen.V5 m (outs m) c (Proc.devRef .tc Cert.KernelIdeal.main_v8),
    fun c => m ((c.tc : Thread Cert.KernelIdeal.nD Cert.KernelIdeal.τ).loc Cert.KernelIdeal.main_arg2), ?_, ?_⟩
  · refine (θ_run Cert.KernelIdeal.defs _ ⟨m, fun _ => 0, g⟩).mono (fun r h c => ?_) (run_main m g)
    have a : ∀ b : Ref Cert.KernelIdeal.sig .tc, b.isScoped = false → r.2.mem (c, Proc.devRef .tc b) = Cert.KernelIdeal.Gen.V5 m (outs m) c (Proc.devRef .tc b) :=
      fun b hb => h.1 c _ (mem_uc b hb)
    exact ⟨a _ rfl, a _ rfl, a _ rfl, a _ rfl, (a _ rfl).trans (Cert.KernelIdeal.Gen.V5_main_arg2 m _ c),
      (a _ rfl).trans (Cert.KernelIdeal.Gen.V5_main_arg0 m _ c), (a _ rfl).trans (Cert.KernelIdeal.Gen.V5_main_arg1 m _ c), (a _ rfl).trans (Cert.KernelIdeal.Gen.V5_main_arg2 m _ c),
      (a _ rfl).trans (Cert.KernelIdeal.Gen.V5_main_arg3 m _ c), (a _ rfl).trans (Cert.KernelIdeal.Gen.V5_main_arg4 m _ c), (a _ rfl).trans (Cert.KernelIdeal.Gen.V5_main_arg5 m _ c)⟩
  · refine (θ_run Cert.ReferenceIdeal.defs _ ⟨m', fun _ => 0, g'⟩).mono (fun r h c => ?_) (Cert.ReferenceIdeal.Gen.run_main m' g')
    have i : ∀ w, (Cert.ReferenceIdeal.cfg0.win w).isOut = false → (Cert.ReferenceIdeal.Gen.dats m' 0 c).arrAt w Cert.ReferenceIdeal.cfg0.N
        = Cert.ReferenceIdeal.Gen.V m' c (Pipeline.arrRef Cert.ReferenceIdeal.spec0 w) :=
      fun w hw => ((Cert.ReferenceIdeal.Gen.dats m' 0 c).arrAt_in w hw _).trans (Cert.ReferenceIdeal.Gen.A_eq m' c w)
    exact ⟨((h c).1 6).trans ((Cert.ReferenceIdeal.Values.final_6 m' c).trans (y_eq c (hag c))),
      ((h c).1 7).trans ((Cert.ReferenceIdeal.Values.final_7 m' c).trans (b_eq c (hag c))),
      ((h c).1 8).trans ((Cert.ReferenceIdeal.Values.final_8 m' c).trans (z_eq c (hag c))),
      ((h c).1 9).trans ((Cert.ReferenceIdeal.Values.final_9 m' c).trans (q_eq c (hag c))),
      (((h c).1 2).trans (i 2 rfl)).trans (hag c).xs,
      ((h c).1 0).trans (i 0 rfl), ((h c).1 1).trans (i 1 rfl), ((h c).1 2).trans (i 2 rfl), ((h c).1 3).trans (i 3 rfl), ((h c).1 4).trans (i 4 rfl), ((h c).1 5).trans (i 5 rfl)⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Kernel.Run
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.KernelIdeal.Run
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ, fun m ρ _ => Cert.ReferenceIdeal.Gen.frame m ρ, trivial, Cert.Algebraic.algebraic⟩

end Cert.Proof

end
